-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AsGiven (m : (ℓ : Loc Cert.AsGiven.nD Cert.AsGiven.τ Cert.AsGiven.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AsGiven [hAsGiven : Cert.AsGiven.Facts] : Prop :=
  ∀ (m : (ℓ : Loc Cert.AsGiven.nD Cert.AsGiven.τ Cert.AsGiven.sig) → Buf (Elt Bits) ℓ) (g : Dev Cert.AsGiven.nD → PrngReg), Pre_AsGiven m →
    θ_run (Cert.AsGiven.defs (F := Bits)) (onTc (τ := Cert.AsGiven.τ) (Cert.AsGiven.main (F := Bits))) ⟨m, fun _ => 0, g⟩ (fun r => (∀ c : Dev Cert.AsGiven.nD,
      r.2.mem ((c.tc : Thread Cert.AsGiven.nD Cert.AsGiven.τ).loc Cert.AsGiven.main_arg0) = m ((c.tc : Thread Cert.AsGiven.nD Cert.AsGiven.τ).loc Cert.AsGiven.main_arg0)
      ∧ r.2.mem ((c.tc : Thread Cert.AsGiven.nD Cert.AsGiven.τ).loc Cert.AsGiven.main_arg1) = m ((c.tc : Thread Cert.AsGiven.nD Cert.AsGiven.τ).loc Cert.AsGiven.main_arg1)
      ∧ r.2.mem ((c.tc : Thread Cert.AsGiven.nD Cert.AsGiven.τ).loc Cert.AsGiven.main_arg2) = m ((c.tc : Thread Cert.AsGiven.nD Cert.AsGiven.τ).loc Cert.AsGiven.main_arg2)
      ∧ r.2.mem ((c.tc : Thread Cert.AsGiven.nD Cert.AsGiven.τ).loc Cert.AsGiven.main_arg3) = m ((c.tc : Thread Cert.AsGiven.nD Cert.AsGiven.τ).loc Cert.AsGiven.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hAsGiven : Cert.AsGiven.Facts),
    quiescent_Kernel (hKernel := hKernel)
    ∧ quiescent_KernelIdeal (hKernelIdeal := hKernelIdeal)
    ∧ quiescent_ReferenceIdeal (hReferenceIdeal := hReferenceIdeal)
    ∧ quiescent_AsGiven (hAsGiven := hAsGiven)
    ∧ preserves_Kernel_KernelIdeal
    ∧ algebraic_KernelIdeal_ReferenceIdeal (hKernelIdeal := hKernelIdeal) (hReferenceIdeal := hReferenceIdeal)
-- ==== Kernel.lean ====
abbrev S6x4096x4096 : Shape := ⟨3, ![6, 4096, 4096]⟩
abbrev S22016x4096 : Shape := ⟨2, ![22016, 4096]⟩
abbrev S22016 : Shape := ⟨1, ![22016]⟩
abbrev S1 : Shape := ⟨1, ![1]⟩
abbrev S255 : Shape := ⟨1, ![255]⟩
abbrev S_ : Shape := ⟨0, ![]⟩
abbrev S1x1 : Shape := ⟨2, ![1, 1]⟩
abbrev S1x255 : Shape := ⟨2, ![1, 255]⟩
abbrev S2 : Shape := ⟨1, ![2]⟩
abbrev S24576x4096 : Shape := ⟨2, ![24576, 4096]⟩
abbrev S1x22016 : Shape := ⟨2, ![1, 22016]⟩
abbrev S3072x8x22016 : Shape := ⟨3, ![3072, 8, 22016]⟩
abbrev S1024x4096 : Shape := ⟨2, ![1024, 4096]⟩
abbrev S512x4096 : Shape := ⟨2, ![512, 4096]⟩
abbrev S1x512 : Shape := ⟨2, ![1, 512]⟩
abbrev S128x8x512 : Shape := ⟨3, ![128, 8, 512]⟩
abbrev S1024x512 : Shape := ⟨2, ![1024, 512]⟩
abbrev S6x4096x22016 : Shape := ⟨3, ![6, 4096, 22016]⟩

abbrev nBuf : Space → Nat
  | .hbm => 59
  | .vmem => 10
  | .smem => 1
  | _ => 0

abbrev bufTy : (tb : Table) → Fin (tcTables nBuf tb) → BufTy
  | .hbm, ⟨0, _⟩ => ⟨S6x4096x4096, .bf16⟩
  | .hbm, ⟨1, _⟩ => ⟨S22016x4096, .fp8e4m3⟩
  | .hbm, ⟨2, _⟩ => ⟨S22016, .f32⟩
  | .hbm, ⟨3, _⟩ => ⟨S1, .f32⟩
  | .hbm, ⟨4, _⟩ => ⟨S255, .i32⟩
  | .hbm, ⟨5, _⟩ => ⟨S_, .i32⟩
  | .hbm, ⟨6, _⟩ => ⟨S255, .i32⟩
  | .hbm, ⟨7, _⟩ => ⟨S255, .i32⟩
  | .hbm, ⟨8, _⟩ => ⟨S_, .i32⟩
  | .hbm, ⟨9, _⟩ => ⟨S255, .i32⟩
  | .hbm, ⟨10, _⟩ => ⟨S255, .i32⟩
  | .hbm, ⟨11, _⟩ => ⟨S255, .f32⟩
  | .hbm, ⟨12, _⟩ => ⟨S1, .f32⟩
  | .hbm, ⟨13, _⟩ => ⟨S1x1, .f32⟩
  | .hbm, ⟨14, _⟩ => ⟨S1x255, .f32⟩
  | .hbm, ⟨15, _⟩ => ⟨S1x255, .f32⟩
  | .hbm, ⟨16, _⟩ => ⟨S1x255, .i1⟩
  | .hbm, ⟨17, _⟩ => ⟨S1x255, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i1⟩
  | .hbm, ⟨23, _⟩ => ⟨S_, .i32⟩
  | .hbm, ⟨24, _⟩ => ⟨S1, .i32⟩
  | .hbm, ⟨25, _⟩ => ⟨S1, .i1⟩
  | .hbm, ⟨26, _⟩ => ⟨S1, .i1⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S1, .f32⟩
  | .hbm, ⟨52, _⟩ => ⟨S2, .f32⟩
  | .hbm, ⟨53, _⟩ => ⟨S24576x4096, .bf16⟩
  | .hbm, ⟨54, _⟩ => ⟨S1x22016, .f32⟩
  | .hbm, ⟨55, _⟩ => ⟨S3072x8x22016, .bf16⟩
  | .hbm, ⟨56, _⟩ => ⟨S24576x4096, .fp8e4m3⟩
  | .hbm, ⟨57, _⟩ => ⟨S6x4096x22016, .bf16⟩
  | .hbm, ⟨58, _⟩ => ⟨S6x4096x4096, .fp8e4m3⟩
  | .local _ .vmem, ⟨0, _⟩ => ⟨S1024x4096, .bf16⟩
  | .local _ .vmem, ⟨1, _⟩ => ⟨S1024x4096, .bf16⟩
  | .local _ .vmem, ⟨2, _⟩ => ⟨S512x4096, .fp8e4m3⟩
  | .local _ .vmem, ⟨3, _⟩ => ⟨S512x4096, .fp8e4m3⟩
  | .local _ .vmem, ⟨4, _⟩ => ⟨S1x512, .f32⟩
  | .local _ .vmem, ⟨5, _⟩ => ⟨S1x512, .f32⟩
  | .local _ .vmem, ⟨6, _⟩ => ⟨S128x8x512, .bf16⟩
  | .local _ .vmem, ⟨7, _⟩ => ⟨S128x8x512, .bf16⟩
  | .local _ .vmem, ⟨8, _⟩ => ⟨S1024x4096, .fp8e4m3⟩
  | .local _ .vmem, ⟨9, _⟩ => ⟨S1024x4096, .fp8e4m3⟩
  | .local _ .smem, ⟨0, _⟩ => ⟨S2, .f32⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_c_9 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_c_10 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v33 : Ref sig .tc := ⟨.hbm, 57, rfl⟩
abbrev main_v34 : Ref sig .tc := ⟨.hbm, 58, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S6x4096x4096 : Shape := ⟨3, ![6, 4096, 4096]⟩
abbrev S22016x4096 : Shape := ⟨2, ![22016, 4096]⟩
abbrev S22016 : Shape := ⟨1, ![22016]⟩
abbrev S1 : Shape := ⟨1, ![1]⟩
abbrev S253 : Shape := ⟨1, ![253]⟩
abbrev S1x1 : Shape := ⟨2, ![1, 1]⟩
abbrev S1x253 : Shape := ⟨2, ![1, 253]⟩
abbrev S_ : Shape := ⟨0, ![]⟩
abbrev S6x4096x22016 : Shape := ⟨3, ![6, 4096, 22016]⟩
abbrev S1x1x22016 : Shape := ⟨3, ![1, 1, 22016]⟩

abbrev nBuf : Space → Nat
  | .hbm => 35
  | .vmem => 5
  | .smem => 2
  | _ => 0

abbrev bufTy : (tb : Table) → Fin (tcTables nBuf tb) → BufTy
  | .hbm, ⟨0, _⟩ => ⟨S6x4096x4096, .bf16⟩
  | .hbm, ⟨1, _⟩ => ⟨S22016x4096, .fp8e4m3⟩
  | .hbm, ⟨2, _⟩ => ⟨S22016, .f32⟩
  | .hbm, ⟨3, _⟩ => ⟨S1, .f32⟩
  | .hbm, ⟨4, _⟩ => ⟨S253, .f32⟩
  | .hbm, ⟨5, _⟩ => ⟨S253, .f32⟩
  | .hbm, ⟨6, _⟩ => ⟨S253, .f32⟩
  | .hbm, ⟨7, _⟩ => ⟨S1, .f32⟩
  | .hbm, ⟨8, _⟩ => ⟨S1x1, .f32⟩
  | .hbm, ⟨9, _⟩ => ⟨S1x253, .f32⟩
  | .hbm, ⟨10, _⟩ => ⟨S1x253, .f32⟩
  | .hbm, ⟨11, _⟩ => ⟨S1x253, .i1⟩
  | .hbm, ⟨12, _⟩ => ⟨S1x1, .f32⟩
  | .hbm, ⟨13, _⟩ => ⟨S1x253, .f32⟩
  | .hbm, ⟨14, _⟩ => ⟨S1x253, .f32⟩
  | .hbm, ⟨15, _⟩ => ⟨S1x253, .i1⟩
  | .hbm, ⟨16, _⟩ => ⟨S1x253, .i1⟩
  | .hbm, ⟨17, _⟩ => ⟨S_, .f32⟩
  | .hbm, ⟨18, _⟩ => ⟨S1x253, .f32⟩
  | .hbm, ⟨19, _⟩ => ⟨S1x253, .f32⟩
  | .hbm, ⟨20, _⟩ => ⟨S1x253, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .i1⟩
  | .hbm, ⟨26, _⟩ => ⟨S_, .f32⟩
  | .hbm, ⟨27, _⟩ => ⟨S1, .f32⟩
  | .hbm, ⟨28, _⟩ => ⟨S1, .i1⟩
  | .hbm, ⟨29, _⟩ => ⟨S1, .i1⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S6x4096x22016, .bf16⟩
  | .hbm, ⟨34, _⟩ => ⟨S6x4096x4096, .fp8e4m3⟩
  | .local _ .vmem, ⟨0, _⟩ => ⟨S6x4096x4096, .bf16⟩
  | .local _ .vmem, ⟨1, _⟩ => ⟨S22016x4096, .fp8e4m3⟩
  | .local _ .vmem, ⟨2, _⟩ => ⟨S22016, .f32⟩
  | .local _ .vmem, ⟨3, _⟩ => ⟨S6x4096x22016, .bf16⟩
  | .local _ .vmem, ⟨4, _⟩ => ⟨S6x4096x4096, .fp8e4m3⟩
  | .local _ .smem, ⟨0, _⟩ => ⟨S1, .f32⟩
  | .local _ .smem, ⟨1, _⟩ => ⟨S1, .f32⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_call1_v0 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22016x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22016 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x22016 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x4096x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AsGiven.lean ====
abbrev S6x4096x4096 : Shape := ⟨3, ![6, 4096, 4096]⟩
abbrev S22016x4096 : Shape := ⟨2, ![22016, 4096]⟩
abbrev S22016 : Shape := ⟨1, ![22016]⟩
abbrev S1 : Shape := ⟨1, ![1]⟩
abbrev S_ : Shape := ⟨0, ![]⟩
abbrev S2 : Shape := ⟨1, ![2]⟩
abbrev S24576x4096 : Shape := ⟨2, ![24576, 4096]⟩
abbrev S1x22016 : Shape := ⟨2, ![1, 22016]⟩
abbrev S3072x8x22016 : Shape := ⟨3, ![3072, 8, 22016]⟩
abbrev S1024x4096 : Shape := ⟨2, ![1024, 4096]⟩
abbrev S512x4096 : Shape := ⟨2, ![512, 4096]⟩
abbrev S1x512 : Shape := ⟨2, ![1, 512]⟩
abbrev S128x8x512 : Shape := ⟨3, ![128, 8, 512]⟩
abbrev S1024x512 : Shape := ⟨2, ![1024, 512]⟩
abbrev S6x4096x22016 : Shape := ⟨3, ![6, 4096, 22016]⟩

abbrev nBuf : Space → Nat
  | .hbm => 120
  | .vmem => 10
  | .smem => 1
  | _ => 0

abbrev bufTy : (tb : Table) → Fin (tcTables nBuf tb) → BufTy
  | .hbm, ⟨0, _⟩ => ⟨S6x4096x4096, .bf16⟩
  | .hbm, ⟨1, _⟩ => ⟨S22016x4096, .fp8e4m3⟩
  | .hbm, ⟨2, _⟩ => ⟨S22016, .f32⟩
  | .hbm, ⟨3, _⟩ => ⟨S1, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .f32⟩
  | .hbm, ⟨54, _⟩ => ⟨S1, .f32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S1, .f32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S1, .i1⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S1, .i1⟩
  | .hbm, ⟨105, _⟩ => ⟨S_, .i32⟩
  | .hbm, ⟨106, _⟩ => ⟨S1, .i32⟩
  | .hbm, ⟨107, _⟩ => ⟨S1, .i1⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .f32⟩
  | .hbm, ⟨113, _⟩ => ⟨S2, .f32⟩
  | .hbm, ⟨114, _⟩ => ⟨S24576x4096, .bf16⟩
  | .hbm, ⟨115, _⟩ => ⟨S1x22016, .f32⟩
  | .hbm, ⟨116, _⟩ => ⟨S3072x8x22016, .bf16⟩
  | .hbm, ⟨117, _⟩ => ⟨S24576x4096, .fp8e4m3⟩
  | .hbm, ⟨118, _⟩ => ⟨S6x4096x22016, .bf16⟩
  | .hbm, ⟨119, _⟩ => ⟨S6x4096x4096, .fp8e4m3⟩
  | .local _ .vmem, ⟨0, _⟩ => ⟨S1024x4096, .bf16⟩
  | .local _ .vmem, ⟨1, _⟩ => ⟨S1024x4096, .bf16⟩
  | .local _ .vmem, ⟨2, _⟩ => ⟨S512x4096, .fp8e4m3⟩
  | .local _ .vmem, ⟨3, _⟩ => ⟨S512x4096, .fp8e4m3⟩
  | .local _ .vmem, ⟨4, _⟩ => ⟨S1x512, .f32⟩
  | .local _ .vmem, ⟨5, _⟩ => ⟨S1x512, .f32⟩
  | .local _ .vmem, ⟨6, _⟩ => ⟨S128x8x512, .bf16⟩
  | .local _ .vmem, ⟨7, _⟩ => ⟨S128x8x512, .bf16⟩
  | .local _ .vmem, ⟨8, _⟩ => ⟨S1024x4096, .fp8e4m3⟩
  | .local _ .vmem, ⟨9, _⟩ => ⟨S1024x4096, .fp8e4m3⟩
  | .local _ .smem, ⟨0, _⟩ => ⟨S2, .f32⟩
  | _, _ => ⟨S6x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_c_5 : Ref sig .tc := ⟨.hbm, 26, rfl⟩
abbrev main_call0_v16 : Ref sig .tc := ⟨.hbm, 27, rfl⟩
abbrev main_call0_v17 : Ref sig .tc := ⟨.hbm, 28, rfl⟩
abbrev main_call0_c_6 : Ref sig .tc := ⟨.hbm, 29, rfl⟩
abbrev main_call0_v18 : Ref sig .tc := ⟨.hbm, 30, rfl⟩
abbrev main_call0_v19 : Ref sig .tc := ⟨.hbm, 31, rfl⟩
abbrev main_call0_c_7 : Ref sig .tc := ⟨.hbm, 32, rfl⟩
abbrev main_call0_v20 : Ref sig .tc := ⟨.hbm, 33, rfl⟩
abbrev main_call0_v21 : Ref sig .tc := ⟨.hbm, 34, rfl⟩
abbrev main_call0_c_8 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_9 : Ref sig .tc := ⟨.hbm, 42, rfl⟩
abbrev main_call0_v28 : Ref sig .tc := ⟨.hbm, 43, rfl⟩
abbrev main_call0_v29 : Ref sig .tc := ⟨.hbm, 44, rfl⟩
abbrev main_call0_c_10 : Ref sig .tc := ⟨.hbm, 45, rfl⟩
abbrev main_call0_v30 : Ref sig .tc := ⟨.hbm, 46, rfl⟩
abbrev main_call0_v31 : Ref sig .tc := ⟨.hbm, 47, rfl⟩
abbrev main_v0_1 : Ref sig .tc := ⟨.hbm, 48, rfl⟩
abbrev main_v0_0 : Ref sig .tc := ⟨.hbm, 49, rfl⟩
abbrev main_c : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_c : Ref sig .tc := ⟨.hbm, 56, rfl⟩
abbrev main_call1_v2 : Ref sig .tc := ⟨.hbm, 57, rfl⟩
abbrev main_call1_v3 : Ref sig .tc := ⟨.hbm, 58, rfl⟩
abbrev main_call1_c_0 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c_2 : Ref sig .tc := ⟨.hbm, 68, rfl⟩
abbrev main_call1_v11 : Ref sig .tc := ⟨.hbm, 69, rfl⟩
abbrev main_call1_v12 : Ref sig .tc := ⟨.hbm, 70, rfl⟩
abbrev main_call1_c_3 : Ref sig .tc := ⟨.hbm, 71, rfl⟩
abbrev main_call1_v13 : Ref sig .tc := ⟨.hbm, 72, rfl⟩
abbrev main_call1_v14 : Ref sig .tc := ⟨.hbm, 73, rfl⟩
abbrev main_call1_c_4 : Ref sig .tc := ⟨.hbm, 74, rfl⟩
abbrev main_call1_v15 : Ref sig .tc := ⟨.hbm, 75, rfl⟩
abbrev main_call1_v16 : Ref sig .tc := ⟨.hbm, 76, rfl⟩
abbrev main_call1_c_5 : Ref sig .tc := ⟨.hbm, 77, rfl⟩
abbrev main_call1_v17 : Ref sig .tc := ⟨.hbm, 78, rfl⟩
abbrev main_call1_v18 : Ref sig .tc := ⟨.hbm, 79, rfl⟩
abbrev main_call1_c_6 : Ref sig .tc := ⟨.hbm, 80, rfl⟩
abbrev main_call1_v19 : Ref sig .tc := ⟨.hbm, 81, rfl⟩
abbrev main_call1_v20 : Ref sig .tc := ⟨.hbm, 82, rfl⟩
abbrev main_call1_c_7 : Ref sig .tc := ⟨.hbm, 83, rfl⟩
abbrev main_call1_v21 : Ref sig .tc := ⟨.hbm, 84, rfl⟩
abbrev main_call1_v22 : Ref sig .tc := ⟨.hbm, 85, rfl⟩
abbrev main_call1_c_8 : Ref sig .tc := ⟨.hbm, 86, rfl⟩
abbrev main_call1_c_9 : Ref sig .tc := ⟨.hbm, 87, rfl⟩
abbrev main_call1_v23 : Ref sig .tc := ⟨.hbm, 88, rfl⟩
abbrev main_call1_v24 : Ref sig .tc := ⟨.hbm, 89, rfl⟩
abbrev main_call1_v25 : Ref sig .tc := ⟨.hbm, 90, rfl⟩
abbrev main_call1_v26 : Ref sig .tc := ⟨.hbm, 91, rfl⟩
abbrev main_call1_v27 : Ref sig .tc := ⟨.hbm, 92, rfl⟩
abbrev main_call1_c_10 : Ref sig .tc := ⟨.hbm, 93, rfl⟩
abbrev main_call1_v28 : Ref sig .tc := ⟨.hbm, 94, rfl⟩
abbrev main_call1_v29 : Ref sig .tc := ⟨.hbm, 95, rfl⟩
abbrev main_call1_v30 : Ref sig .tc := ⟨.hbm, 96, rfl⟩
abbrev main_call1_c_11 : Ref sig .tc := ⟨.hbm, 97, rfl⟩
abbrev main_call1_v31 : Ref sig .tc := ⟨.hbm, 98, rfl⟩
abbrev main_call1_v32 : Ref sig .tc := ⟨.hbm, 99, rfl⟩
abbrev main_call1_v33 : Ref sig .tc := ⟨.hbm, 100, rfl⟩
abbrev main_call1_v34 : Ref sig .tc := ⟨.hbm, 101, rfl⟩
abbrev main_call1_c_12 : Ref sig .tc := ⟨.hbm, 102, rfl⟩
abbrev main_call1_v35 : Ref sig .tc := ⟨.hbm, 103, rfl⟩
abbrev main_call1_v36 : Ref sig .tc := ⟨.hbm, 104, rfl⟩
abbrev main_call1_c_13 : Ref sig .tc := ⟨.hbm, 105, rfl⟩
abbrev main_call1_v37 : Ref sig .tc := ⟨.hbm, 106, rfl⟩
abbrev main_call1_v38 : Ref sig .tc := ⟨.hbm, 107, rfl⟩
abbrev main_call1_v39 : Ref sig .tc := ⟨.hbm, 108, rfl⟩
abbrev main_call1_v40 : Ref sig .tc := ⟨.hbm, 109, rfl⟩
abbrev main_call1_v41 : Ref sig .tc := ⟨.hbm, 110, rfl⟩
abbrev main_call1_v42 : Ref sig .tc := ⟨.hbm, 111, rfl⟩
abbrev main_v3 : Ref sig .tc := ⟨.hbm, 112, rfl⟩
abbrev main_v4 : Ref sig .tc := ⟨.hbm, 113, rfl⟩
abbrev main_v5 : Ref sig .tc := ⟨.hbm, 114, rfl⟩
abbrev main_v6 : Ref sig .tc := ⟨.hbm, 115, rfl⟩
abbrev main_v7_0 : Ref sig .tc := ⟨.hbm, 116, rfl⟩
abbrev main_v7_1 : Ref sig .tc := ⟨.hbm, 117, rfl⟩
abbrev main_v8 : Ref sig .tc := ⟨.hbm, 118, rfl⟩
abbrev main_v9 : Ref sig .tc := ⟨.hbm, 119, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![24, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Proof.Body.lean ====
/-
  The body of the idealized kernel program at one grid point, run once per case of its conditional, with what it leaves in both output blocks
  named. In the first case (column 0 of a row of blocks) the body quantises the row's block of activations into the codes
  block; in both it multiplies the codes block by the point's block of weight codes and scales the product.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.ValueIdxCore
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Entry `k` of the pair of scales the kernel keeps in scalar memory. -/
def word (x0 : Vec F S2 .f32) (k : Fin 2) : Elt F .f32 := x0 (ValueIdx.ix1 k)

/-- The offset `(0, 0)` is the zero offset. -/
theorem z2 : (![0, 0] : Fin 2 → ℕ) = fun _ => 0 := by funext a; fin_cases a <;> rfl
theorem z3 : (![0, 0, 0] : Fin 3 → ℕ) = fun _ => 0 := by funext a; fin_cases a <;> rfl

/-- A buffer stored whole, through a rectangle at offset zero, reads as what was stored. -/
theorem read_stored {S : Shape} {e : EltTy} {sp : Space} (v : View sig .tc sp S e) {off : Fin S.rank → ℕ}
    (inb : ∀ a, off a + S.size a ≤ S.size a) (h : off = fun _ => 0) (f : v.ty.Contents (Elt F)) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- And a load of all of it, after that store, reads what was stored. -/
theorem readCov_whole {S : Shape} {e : EltTy} {sp : Space} (v : View sig .tc sp S e) {off : Fin S.rank → ℕ}
    (inb : ∀ a, off a + S.size a ≤ S.size a) (h : off = fun _ => 0) (w : S.Idx → Elt F e) :
    v.readCov [(⟨Rect.unit off S.size inb, w⟩ : View.Piece (Elt F) S e)] (Rect.unit off S.size inb).toLoadRect = w :=
  View.readCov_unit_zero v h inb w

/-- A scalar load of entry 0 of the pair of scales, -/
theorem ld_word0 (x0 : Vec F S2 .f32) (h) :
    View.ld x0 (Rect.unit (s := S2) ![0] S1.size inb_S2_S1_0) (Shape.Idx.first h) = word x0 0 := by
  refine congrArg x0 (funext fun a => Fin.ext ?_)
  fin_cases a; rfl
/-- and of entry 1. -/
theorem ld_word1 (x0 : Vec F S2 .f32) (h) :
    View.ld x0 (Rect.unit (s := S2) ![1] S1.size inb_S2_S1_1) (Shape.Idx.first h) = word x0 1 := by
  refine congrArg x0 (funext fun a => Fin.ext ?_)
  fin_cases a; rfl

set_option maxHeartbeats 1000000 in
/-- The body at a point of column 0: from the four input blocks, whatever the output blocks hold, it leaves in the
    codes block the quantised activations and in the product block their scaled product. -/
theorem body_first (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : k0_cond1 i = 1#1)
    (x0 : Vec F S2 .f32) (x1 : Vec F S1024x4096 .bf16) (x2 : Vec F S512x4096 .fp8e4m3) (x3 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay1 x1 (word x0 0)) x2 (word x0 1) x3)
            ∗ owns (c : Thread nD τ) arg7 fullShare (k0_pay1 x1 (word x0 0))) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg₂ (fun a b => k0_pay2 a x2 b x3)
      ((readCov_whole _ inb_S1024x4096_S1024x4096_0_0 z2 _).trans (congrArg (k0_pay1 x1) (ld_word0 x0 _))) (ld_word1 x0 _)
  iexists _; isplitr; swap; · iexact H5
  ipureintro
  sl_unfold_words
  rw [read_stored _ inb_S1024x4096_S1024x4096_0_0 z2]
  simp only [View.readAt_eq_ld, Memref.IsWhole.read_unread, View.ld_unit_zero (S := S1024x4096) z2]
  exact congrArg (k0_pay1 x1) (ld_word0 x0 _)

set_option maxHeartbeats 1000000 in
/-- The body at a point of a later column: the codes block, `x5`, is read and left as it is; the product block ends with
    its scaled product. -/
theorem body_next (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : ¬ k0_cond1 i = 1#1)
    (x0 : Vec F S2 .f32) (x1 : Vec F S1024x4096 .bf16) (x2 : Vec F S512x4096 .fp8e4m3) (x3 : Vec F S1x512 .f32) (x5 : Vec F S1024x4096 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x5 x2 (word x0 1) x3)
            ∗ owns (c : Thread nD τ) arg7 fullShare x5) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg (fun b => k0_pay2 x5 x2 b x3) (ld_word1 x0 _)
  iexists _; isplitr; · ipureintro; exact harg7.read_unread _
  iexact H5

end Cert.KernelIdeal.Hand

end
-- ==== Proof.Run.lean ====
/-
  The whole run of the idealized kernel program. The pipeline's proof data name what every block holds after every grid point:
  the inputs their blocks, the codes block the quantised activations of the row of blocks the point is in, the product
  block the scaled product of those codes with the point's weight codes. From the body's two cases follow the body's
  obligation at every point, the run, and the frame claim.
-/
module

public import proofs.«01_k».proof.Proof.Body
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

/-- The quantised activations of point `t`'s row of blocks, -/
def codesAt (c : Dev nD) (t : Fin cfg0.N) : Vec F S1024x4096 .fp8e4m3 :=
  k0_pay1 (iblk m c 1 t) (word (iblk m c 0 t) 0)
/-- and the block of scaled products at point `t`. -/
def prodAt (c : Dev nD) (t : Fin cfg0.N) : Vec F S128x8x512 .bf16 :=
  k0_pay2 (codesAt m c t) (iblk m c 2 t) (word (iblk m c 0 t) 1) (iblk m c 3 t)

/-- The blocks' places in their arrays, at every point. -/
theorem idx : ∀ t : Fin cfg0.N, win0_0.index t = ![0] ∧ win0_1.index t = ![t.val / 43, 0] ∧ win0_2.index t = ![t.val % 43, 0]
    ∧ win0_3.index t = ![0, t.val % 43] ∧ win0_4.index t = ![t.val / 43, 0, t.val % 43] ∧ win0_5.index t = ![t.val / 43, 0] :=
  (by decide +kernel : ∀ t : Fin grid0.N, _)

/-- The pair of scales is one block, the same at every point: the whole array. -/
theorem iblk0 (c : Dev nD) (t : Fin cfg0.N) : iblk m c 0 t = V m c main_v29 := by
  blk_ext! [iblk, idx t]

/-- Block `t` of the activations, at an index. -/
theorem iblk1_apply (c : Dev nD) (t : Fin cfg0.N) (a : Fin 1024) (b : Fin 4096) (ha : t.val / 43 * 1024 + a.val < 24576) :
    iblk m c 1 t (ValueIdx.ix2 a b) = V m c main_v30 (ValueIdx.ix2 ⟨t.val / 43 * 1024 + a.val, ha⟩ b) := by
  blk_ext [iblk, idx t]

/-- Two points of the same row of blocks see the same block of activations, so they have the same codes. -/
theorem codesAt_eq (c : Dev nD) (t t' : Fin cfg0.N) (h : t.val / 43 = t'.val / 43) : codesAt m c t = codesAt m c t' := by
  unfold codesAt
  have e : (iblk m c 1 t : Vec F S1024x4096 .bf16) = iblk m c 1 t' := by
    funext j
    have ht : t.val < 1032 := Nat.lt_of_lt_of_eq t.isLt N_0
    rw [ValueIdx.eq_ix2 j]
    have hj : (j 0).val < 1024 := (j 0).isLt
    refine (iblk1_apply m c t (j 0) (j 1) (by omega)).trans (Eq.trans ?_ (iblk1_apply m c t' (j 0) (j 1) (by omega)).symm)
    simp only [h]
  rw [e, iblk0, iblk0]

/-- The body's condition holds exactly at the points of column 0. -/
theorem hcond : ∀ t : Fin cfg0.N, k0_cond1 (grid0.coords t) = 1#1 ↔ t.val % 43 = 0 :=
  (fun t => by
    have ht : t.val < 1032 := Nat.lt_of_lt_of_eq t.isLt N_0
    have e0 : (grid0.coords t 0).val = t.val / 43 % 24 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-- The codes block is written at the points of column 0, -/
theorem idle5_first (t : Fin cfg0.N) (h : t.val % 43 = 0) : cfg0.idle 5 (cfg0.grid.coords t) = false := by
  have := (hcond t).mpr h
  show (!(k0_cond1 (grid0.coords t) == 1#1)) = false
  rw [this]; rfl
/-- and at no other. -/
theorem idle5_next (t : Fin cfg0.N) (h : ¬ t.val % 43 = 0) : cfg0.idle 5 (cfg0.grid.coords t) = true := by
  have := fun e => h ((hcond t).mp e)
  show (!(k0_cond1 (grid0.coords t) == 1#1)) = true
  rw [Bool.not_eq_true', beq_eq_false_iff_ne]; exact this

/-! ## The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt m c t
    | ⟨5, _⟩ => codesAt m c t
  Φ _ := Pipeline.ΦA spec0 c
  q _ := fullShare
  owed _ := 0

/-- Every array starts as the host left it. -/
theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = prodAt m c t := by dsimp only [dats]
theorem after5 (c : Dev nD) (t : Fin cfg0.N) : (dats m 0 c).after 5 t = codesAt m c t := by dsimp only [dats]

/-- Each input's buffer holds its block when the body starts. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past column 0 the codes block still holds the codes the row's first point left there. -/
theorem before5 (c : Dev nD) (t : Fin cfg0.N) (ht : ¬ t.val % 43 = 0) (d) : (dats m 0 c).before 5 t d = codesAt m c t := by
  induction hn : t.val using Nat.strong_induction_on generalizing t with
  | _ n ih =>
    subst hn
    have h0 : t.val ≠ 0 := fun h => ht (by rw [h])
    have hfl : (cfg0.win 5).flush ⟨t.val - 1, Nat.lt_of_le_of_lt (Nat.sub_le _ _) t.isLt⟩ = false := by
      rw [← Bool.not_eq_true]
      intro h
      have := (flush0_5 _).mp h
      simp only at this
      omega
    rw [(dats m 0 c).before_of_pos 5 t h0 ((cfg0.win 5).fetch_out rfl t), hfl, if_neg Bool.false_ne_true]
    unfold Dat.left
    by_cases h1 : (t.val - 1) % 43 = 0
    · rw [idle5_first ⟨t.val - 1, _⟩ h1]
      show (dats m 0 c).kept 5 _ d = _
      unfold Dat.kept
      rw [Pipeline.fill_of_clip_none 5 _ (fun _ => rfl) d ((dats m 0 c).after 5 _), Window.fill_cut, after5]
      exact codesAt_eq m c _ _ (by simp only; omega)
    · rw [idle5_next ⟨t.val - 1, _⟩ h1]
      exact (ih (t.val - 1) (by omega) ⟨t.val - 1, _⟩ h1 rfl).trans (codesAt_eq m c _ _ (by simp only; omega))

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What is asked of the codes block after the body at point `t`: at a column other than 0, unless the block is written
    back there, that it is as the body found it; else that it holds the codes. -/
def post5 (c : Dev nD) (t : Fin cfg0.N) : sProp 𝕄 :=
  match cfg0.idle 5 (cfg0.grid.coords t) with
  | true =>
    match (cfg0.win 5).flush t with
    | false => iprop(∃ d, owns (c : Thread nD τ) (win0_5.stage (cfg0.slots t 5)) fullShare ((dats m 0 c).before 5 t d))
    | true => owns (c : Thread nD τ) (win0_5.stage (cfg0.slots t 5)) fullShare ((dats m 0 c).after 5 t)
  | false => owns (c : Thread nD τ) (win0_5.stage (cfg0.slots t 5)) fullShare ((dats m 0 c).after 5 t)

/-- In every case it is enough that the block holds the codes. -/
theorem post5_of (c : Dev nD) (t : Fin cfg0.N) :
    owns (c : Thread nD τ) (win0_5.stage (cfg0.slots t 5)) fullShare (codesAt m c t) ⊢ post5 m c t := by
  unfold post5
  by_cases ht : t.val % 43 = 0
  · rw [idle5_first t ht]
    show _ ⊢ owns (c : Thread nD τ) (win0_5.stage (cfg0.slots t 5)) fullShare ((dats m 0 c).after 5 t)
    rw [after5]
  · rw [idle5_next t ht]
    show _ ⊢ (match (cfg0.win 5).flush t with
      | false => iprop(∃ d, owns (c : Thread nD τ) (win0_5.stage (cfg0.slots t 5)) fullShare ((dats m 0 c).before 5 t d))
      | true => owns (c : Thread nD τ) (win0_5.stage (cfg0.slots t 5)) fullShare ((dats m 0 c).after 5 t) : sProp 𝕄)
    cases (cfg0.win 5).flush t
    · show _ ⊢ (iprop(∃ d, owns (c : Thread nD τ) (win0_5.stage (cfg0.slots t 5)) fullShare ((dats m 0 c).before 5 t d)) : sProp 𝕄)
      simp only [before5 m c t ht]
      iintro H; iexists (codesAt m c t); iexact H
    · show _ ⊢ owns (c : Thread nD τ) (win0_5.stage (cfg0.slots t 5)) fullShare ((dats m 0 c).after 5 t)
      rw [after5]

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ post5 m c t)

/-- The body at any point, by the case of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases ht : t.val % 43 = 0
  · iintro ⟨HΦ, Ho, ⟨%d0, H0⟩, ⟨%d1, H1⟩, ⟨%d2, H2⟩, ⟨%d3, H3⟩, ⟨%d4, H4⟩, ⟨%d5, H5⟩⟩
    iapply (body_first c _ _ _ _ _ _ _ _ _ _ _ _ _ ((hcond t).mpr ht) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5
  · simp only [before5 m c t ht]
    iintro ⟨HΦ, Ho, ⟨%d0, H0⟩, ⟨%d1, H1⟩, ⟨%d2, H2⟩, ⟨%d3, H3⟩, ⟨%d4, H4⟩, ⟨%d5, H5⟩⟩
    iapply (body_next c _ _ _ _ _ _ _ _ _ _ _ _ _ (fun h => ht ((hcond t).mp h)) (iblk m c 0 t) (iblk m c 1 t) (iblk m c 2 t) (iblk m c 3 t) (codesAt m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5

/-- The body that the launch calls at a point is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program terminates; at its end every array of the pipeline holds what the proof data say, every
    other buffer what the host operations after the region leave, and every semaphore is at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.PrintedBody.lean ====
/-
  The body of the kernel program at one grid point, run once per case of its conditional, with what it leaves in both output blocks
  named. In the first case (column 0 of a row of blocks) the body quantises the row's block of activations into the codes
  block; in both it multiplies the codes block by the point's block of weight codes and scales the product.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.ValueIdxCore
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Entry `k` of the pair of scales the kernel keeps in scalar memory. -/
def word (x0 : Vec F S2 .f32) (k : Fin 2) : Elt F .f32 := x0 (ValueIdx.ix1 k)

/-- The offset `(0, 0)` is the zero offset. -/
theorem z2 : (![0, 0] : Fin 2 → ℕ) = fun _ => 0 := by funext a; fin_cases a <;> rfl
theorem z3 : (![0, 0, 0] : Fin 3 → ℕ) = fun _ => 0 := by funext a; fin_cases a <;> rfl

/-- A buffer stored whole, through a rectangle at offset zero, reads as what was stored. -/
theorem read_stored {S : Shape} {e : EltTy} {sp : Space} (v : View sig .tc sp S e) {off : Fin S.rank → ℕ}
    (inb : ∀ a, off a + S.size a ≤ S.size a) (h : off = fun _ => 0) (f : v.ty.Contents (Elt F)) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- And a load of all of it, after that store, reads what was stored. -/
theorem readCov_whole {S : Shape} {e : EltTy} {sp : Space} (v : View sig .tc sp S e) {off : Fin S.rank → ℕ}
    (inb : ∀ a, off a + S.size a ≤ S.size a) (h : off = fun _ => 0) (w : S.Idx → Elt F e) :
    v.readCov [(⟨Rect.unit off S.size inb, w⟩ : View.Piece (Elt F) S e)] (Rect.unit off S.size inb).toLoadRect = w :=
  View.readCov_unit_zero v h inb w

/-- A scalar load of entry 0 of the pair of scales, -/
theorem ld_word0 (x0 : Vec F S2 .f32) (h) :
    View.ld x0 (Rect.unit (s := S2) ![0] S1.size inb_S2_S1_0) (Shape.Idx.first h) = word x0 0 := by
  refine congrArg x0 (funext fun a => Fin.ext ?_)
  fin_cases a; rfl
/-- and of entry 1. -/
theorem ld_word1 (x0 : Vec F S2 .f32) (h) :
    View.ld x0 (Rect.unit (s := S2) ![1] S1.size inb_S2_S1_1) (Shape.Idx.first h) = word x0 1 := by
  refine congrArg x0 (funext fun a => Fin.ext ?_)
  fin_cases a; rfl

set_option maxHeartbeats 1000000 in
/-- The body at a point of column 0: from the four input blocks, whatever the output blocks hold, it leaves in the
    codes block the quantised activations and in the product block their scaled product. -/
theorem body_first (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : k0_cond1 i = 1#1)
    (x0 : Vec F S2 .f32) (x1 : Vec F S1024x4096 .bf16) (x2 : Vec F S512x4096 .fp8e4m3) (x3 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay1 x1 (word x0 0)) x2 (word x0 1) x3)
            ∗ owns (c : Thread nD τ) arg7 fullShare (k0_pay1 x1 (word x0 0))) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg₂ (fun a b => k0_pay2 a x2 b x3)
      ((readCov_whole _ inb_S1024x4096_S1024x4096_0_0 z2 _).trans (congrArg (k0_pay1 x1) (ld_word0 x0 _))) (ld_word1 x0 _)
  iexists _; isplitr; swap; · iexact H5
  ipureintro
  sl_unfold_words
  rw [read_stored _ inb_S1024x4096_S1024x4096_0_0 z2]
  simp only [View.readAt_eq_ld, Memref.IsWhole.read_unread, View.ld_unit_zero (S := S1024x4096) z2]
  exact congrArg (k0_pay1 x1) (ld_word0 x0 _)

set_option maxHeartbeats 1000000 in
/-- The body at a point of a later column: the codes block, `x5`, is read and left as it is; the product block ends with
    its scaled product. -/
theorem body_next (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : ¬ k0_cond1 i = 1#1)
    (x0 : Vec F S2 .f32) (x1 : Vec F S1024x4096 .bf16) (x2 : Vec F S512x4096 .fp8e4m3) (x3 : Vec F S1x512 .f32) (x5 : Vec F S1024x4096 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x5 x2 (word x0 1) x3)
            ∗ owns (c : Thread nD τ) arg7 fullShare x5) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg (fun b => k0_pay2 x5 x2 b x3) (ld_word1 x0 _)
  iexists _; isplitr; · ipureintro; exact harg7.read_unread _
  iexact H5

end Cert.Kernel.Hand

end
-- ==== Proof.PrintedRun.lean ====
/-
  The whole run of the kernel program. The pipeline's proof data name what every block holds after every grid point:
  the inputs their blocks, the codes block the quantised activations of the row of blocks the point is in, the product
  block the scaled product of those codes with the point's weight codes. From the body's two cases follow the body's
  obligation at every point, the run, and the frame claim.
-/
module

public import proofs.«01_k».proof.Proof.PrintedBody
public import Idealize.ShloMosaic.Lib.Pipeline.ValueKit
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

/-- The quantised activations of point `t`'s row of blocks, -/
def codesAt (c : Dev nD) (t : Fin cfg0.N) : Vec F S1024x4096 .fp8e4m3 :=
  k0_pay1 (iblk m c 1 t) (word (iblk m c 0 t) 0)
/-- and the block of scaled products at point `t`. -/
def prodAt (c : Dev nD) (t : Fin cfg0.N) : Vec F S128x8x512 .bf16 :=
  k0_pay2 (codesAt m c t) (iblk m c 2 t) (word (iblk m c 0 t) 1) (iblk m c 3 t)

/-- The blocks' places in their arrays, at every point. -/
theorem idx : ∀ t : Fin cfg0.N, win0_0.index t = ![0] ∧ win0_1.index t = ![t.val / 43, 0] ∧ win0_2.index t = ![t.val % 43, 0]
    ∧ win0_3.index t = ![0, t.val % 43] ∧ win0_4.index t = ![t.val / 43, 0, t.val % 43] ∧ win0_5.index t = ![t.val / 43, 0] :=
  (by decide +kernel : ∀ t : Fin grid0.N, _)

/-- The pair of scales is one block, the same at every point: the whole array. -/
theorem iblk0 (c : Dev nD) (t : Fin cfg0.N) : iblk m c 0 t = V m c main_v29 := by
  blk_ext! [iblk, idx t]

/-- Block `t` of the activations, at an index. -/
theorem iblk1_apply (c : Dev nD) (t : Fin cfg0.N) (a : Fin 1024) (b : Fin 4096) (ha : t.val / 43 * 1024 + a.val < 24576) :
    iblk m c 1 t (ValueIdx.ix2 a b) = V m c main_v30 (ValueIdx.ix2 ⟨t.val / 43 * 1024 + a.val, ha⟩ b) := by
  blk_ext [iblk, idx t]

/-- Two points of the same row of blocks see the same block of activations, so they have the same codes. -/
theorem codesAt_eq (c : Dev nD) (t t' : Fin cfg0.N) (h : t.val / 43 = t'.val / 43) : codesAt m c t = codesAt m c t' := by
  unfold codesAt
  have e : (iblk m c 1 t : Vec F S1024x4096 .bf16) = iblk m c 1 t' := by
    funext j
    have ht : t.val < 1032 := Nat.lt_of_lt_of_eq t.isLt N_0
    rw [ValueIdx.eq_ix2 j]
    have hj : (j 0).val < 1024 := (j 0).isLt
    refine (iblk1_apply m c t (j 0) (j 1) (by omega)).trans (Eq.trans ?_ (iblk1_apply m c t' (j 0) (j 1) (by omega)).symm)
    simp only [h]
  rw [e, iblk0, iblk0]

/-- The body's condition holds exactly at the points of column 0. -/
theorem hcond : ∀ t : Fin cfg0.N, k0_cond1 (grid0.coords t) = 1#1 ↔ t.val % 43 = 0 :=
  (fun t => by
    have ht : t.val < 1032 := Nat.lt_of_lt_of_eq t.isLt N_0
    have e0 : (grid0.coords t 0).val = t.val / 43 % 24 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-- The codes block is written at the points of column 0, -/
theorem idle5_first (t : Fin cfg0.N) (h : t.val % 43 = 0) : cfg0.idle 5 (cfg0.grid.coords t) = false := by
  have := (hcond t).mpr h
  show (!(k0_cond1 (grid0.coords t) == 1#1)) = false
  rw [this]; rfl
/-- and at no other. -/
theorem idle5_next (t : Fin cfg0.N) (h : ¬ t.val % 43 = 0) : cfg0.idle 5 (cfg0.grid.coords t) = true := by
  have := fun e => h ((hcond t).mp e)
  show (!(k0_cond1 (grid0.coords t) == 1#1)) = true
  rw [Bool.not_eq_true', beq_eq_false_iff_ne]; exact this

/-! ## The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt m c t
    | ⟨5, _⟩ => codesAt m c t
  Φ _ := Pipeline.ΦA spec0 c
  q _ := fullShare
  owed _ := 0

/-- Every array starts as the host left it. -/
theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = prodAt m c t := by dsimp only [dats]
theorem after5 (c : Dev nD) (t : Fin cfg0.N) : (dats m 0 c).after 5 t = codesAt m c t := by dsimp only [dats]

/-- Each input's buffer holds its block when the body starts. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past column 0 the codes block still holds the codes the row's first point left there. -/
theorem before5 (c : Dev nD) (t : Fin cfg0.N) (ht : ¬ t.val % 43 = 0) (d) : (dats m 0 c).before 5 t d = codesAt m c t := by
  induction hn : t.val using Nat.strong_induction_on generalizing t with
  | _ n ih =>
    subst hn
    have h0 : t.val ≠ 0 := fun h => ht (by rw [h])
    have hfl : (cfg0.win 5).flush ⟨t.val - 1, Nat.lt_of_le_of_lt (Nat.sub_le _ _) t.isLt⟩ = false := by
      rw [← Bool.not_eq_true]
      intro h
      have := (flush0_5 _).mp h
      simp only at this
      omega
    rw [(dats m 0 c).before_of_pos 5 t h0 ((cfg0.win 5).fetch_out rfl t), hfl, if_neg Bool.false_ne_true]
    unfold Dat.left
    by_cases h1 : (t.val - 1) % 43 = 0
    · rw [idle5_first ⟨t.val - 1, _⟩ h1]
      show (dats m 0 c).kept 5 _ d = _
      unfold Dat.kept
      rw [Pipeline.fill_of_clip_none 5 _ (fun _ => rfl) d ((dats m 0 c).after 5 _), Window.fill_cut, after5]
      exact codesAt_eq m c _ _ (by simp only; omega)
    · rw [idle5_next ⟨t.val - 1, _⟩ h1]
      exact (ih (t.val - 1) (by omega) ⟨t.val - 1, _⟩ h1 rfl).trans (codesAt_eq m c _ _ (by simp only; omega))

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What is asked of the codes block after the body at point `t`: at a column other than 0, unless the block is written
    back there, that it is as the body found it; else that it holds the codes. -/
def post5 (c : Dev nD) (t : Fin cfg0.N) : sProp 𝕄 :=
  match cfg0.idle 5 (cfg0.grid.coords t) with
  | true =>
    match (cfg0.win 5).flush t with
    | false => iprop(∃ d, owns (c : Thread nD τ) (win0_5.stage (cfg0.slots t 5)) fullShare ((dats m 0 c).before 5 t d))
    | true => owns (c : Thread nD τ) (win0_5.stage (cfg0.slots t 5)) fullShare ((dats m 0 c).after 5 t)
  | false => owns (c : Thread nD τ) (win0_5.stage (cfg0.slots t 5)) fullShare ((dats m 0 c).after 5 t)

/-- In every case it is enough that the block holds the codes. -/
theorem post5_of (c : Dev nD) (t : Fin cfg0.N) :
    owns (c : Thread nD τ) (win0_5.stage (cfg0.slots t 5)) fullShare (codesAt m c t) ⊢ post5 m c t := by
  unfold post5
  by_cases ht : t.val % 43 = 0
  · rw [idle5_first t ht]
    show _ ⊢ owns (c : Thread nD τ) (win0_5.stage (cfg0.slots t 5)) fullShare ((dats m 0 c).after 5 t)
    rw [after5]
  · rw [idle5_next t ht]
    show _ ⊢ (match (cfg0.win 5).flush t with
      | false => iprop(∃ d, owns (c : Thread nD τ) (win0_5.stage (cfg0.slots t 5)) fullShare ((dats m 0 c).before 5 t d))
      | true => owns (c : Thread nD τ) (win0_5.stage (cfg0.slots t 5)) fullShare ((dats m 0 c).after 5 t) : sProp 𝕄)
    cases (cfg0.win 5).flush t
    · show _ ⊢ (iprop(∃ d, owns (c : Thread nD τ) (win0_5.stage (cfg0.slots t 5)) fullShare ((dats m 0 c).before 5 t d)) : sProp 𝕄)
      simp only [before5 m c t ht]
      iintro H; iexists (codesAt m c t); iexact H
    · show _ ⊢ owns (c : Thread nD τ) (win0_5.stage (cfg0.slots t 5)) fullShare ((dats m 0 c).after 5 t)
      rw [after5]

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ post5 m c t)

/-- The body at any point, by the case of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases ht : t.val % 43 = 0
  · iintro ⟨HΦ, Ho, ⟨%d0, H0⟩, ⟨%d1, H1⟩, ⟨%d2, H2⟩, ⟨%d3, H3⟩, ⟨%d4, H4⟩, ⟨%d5, H5⟩⟩
    iapply (body_first c _ _ _ _ _ _ _ _ _ _ _ _ _ ((hcond t).mpr ht) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5
  · simp only [before5 m c t ht]
    iintro ⟨HΦ, Ho, ⟨%d0, H0⟩, ⟨%d1, H1⟩, ⟨%d2, H2⟩, ⟨%d3, H3⟩, ⟨%d4, H4⟩, ⟨%d5, H5⟩⟩
    iapply (body_next c _ _ _ _ _ _ _ _ _ _ _ _ _ (fun h => ht ((hcond t).mp h)) (iblk m c 0 t) (iblk m c 1 t) (iblk m c 2 t) (iblk m c 3 t) (codesAt m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5

/-- The body that the launch calls at a point is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program terminates; at its end every array of the pipeline holds what the proof data say, every
    other buffer what the host operations after the region leave, and every semaphore is at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.GivenBody.lean ====
/-
  The body of the kernel program with its frexp and ldexp as given at one grid point, run once per case of its conditional, with what it leaves in both output blocks
  named. In the first case (column 0 of a row of blocks) the body quantises the row's block of activations into the codes
  block; in both it multiplies the codes block by the point's block of weight codes and scales the product.
-/
module

public import proofs.«01_k».proof.Proof.Gen.AsGiven.Launch
public import proofs.«01_k».proof.Proof.Gen.AsGiven.Skeleton
public import proofs.«01_k».proof.Proof.Gen.AsGiven.Points
public import proofs.«01_k».proof.Proof.Gen.AsGiven.Frame
public import Idealize.ShloMosaic.Lib.ValueIdxCore
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.AsGiven.Hand

open Cert.AsGiven Cert.AsGiven.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- Entry `k` of the pair of scales the kernel keeps in scalar memory. -/
def word (x0 : Vec F S2 .f32) (k : Fin 2) : Elt F .f32 := x0 (ValueIdx.ix1 k)

/-- The offset `(0, 0)` is the zero offset. -/
theorem z2 : (![0, 0] : Fin 2 → ℕ) = fun _ => 0 := by funext a; fin_cases a <;> rfl
theorem z3 : (![0, 0, 0] : Fin 3 → ℕ) = fun _ => 0 := by funext a; fin_cases a <;> rfl

/-- A buffer stored whole, through a rectangle at offset zero, reads as what was stored. -/
theorem read_stored {S : Shape} {e : EltTy} {sp : Space} (v : View sig .tc sp S e) {off : Fin S.rank → ℕ}
    (inb : ∀ a, off a + S.size a ≤ S.size a) (h : off = fun _ => 0) (f : v.ty.Contents (Elt F)) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- And a load of all of it, after that store, reads what was stored. -/
theorem readCov_whole {S : Shape} {e : EltTy} {sp : Space} (v : View sig .tc sp S e) {off : Fin S.rank → ℕ}
    (inb : ∀ a, off a + S.size a ≤ S.size a) (h : off = fun _ => 0) (w : S.Idx → Elt F e) :
    v.readCov [(⟨Rect.unit off S.size inb, w⟩ : View.Piece (Elt F) S e)] (Rect.unit off S.size inb).toLoadRect = w :=
  View.readCov_unit_zero v h inb w

/-- A scalar load of entry 0 of the pair of scales, -/
theorem ld_word0 (x0 : Vec F S2 .f32) (h) :
    View.ld x0 (Rect.unit (s := S2) ![0] S1.size inb_S2_S1_0) (Shape.Idx.first h) = word x0 0 := by
  refine congrArg x0 (funext fun a => Fin.ext ?_)
  fin_cases a; rfl
/-- and of entry 1. -/
theorem ld_word1 (x0 : Vec F S2 .f32) (h) :
    View.ld x0 (Rect.unit (s := S2) ![1] S1.size inb_S2_S1_1) (Shape.Idx.first h) = word x0 1 := by
  refine congrArg x0 (funext fun a => Fin.ext ?_)
  fin_cases a; rfl

set_option maxHeartbeats 1000000 in
/-- The body at a point of column 0: from the four input blocks, whatever the output blocks hold, it leaves in the
    codes block the quantised activations and in the product block their scaled product. -/
theorem body_first (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : k0_cond1 i = 1#1)
    (x0 : Vec F S2 .f32) (x1 : Vec F S1024x4096 .bf16) (x2 : Vec F S512x4096 .fp8e4m3) (x3 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay1 x1 (word x0 0)) x2 (word x0 1) x3)
            ∗ owns (c : Thread nD τ) arg7 fullShare (k0_pay1 x1 (word x0 0))) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg₂ (fun a b => k0_pay2 a x2 b x3)
      ((readCov_whole _ inb_S1024x4096_S1024x4096_0_0 z2 _).trans (congrArg (k0_pay1 x1) (ld_word0 x0 _))) (ld_word1 x0 _)
  iexists _; isplitr; swap; · iexact H5
  ipureintro
  sl_unfold_words
  rw [read_stored _ inb_S1024x4096_S1024x4096_0_0 z2]
  simp only [View.readAt_eq_ld, Memref.IsWhole.read_unread, View.ld_unit_zero (S := S1024x4096) z2]
  exact congrArg (k0_pay1 x1) (ld_word0 x0 _)

set_option maxHeartbeats 1000000 in
/-- The body at a point of a later column: the codes block, `x5`, is read and left as it is; the product block ends with
    its scaled product. -/
theorem body_next (c : Dev nD) (i : grid0.Coords) (arg2 : Memref sig .tc .smem S2 .f32) (harg2 : arg2.IsWhole) (arg3 : Memref sig .tc .vmem S1024x4096 .bf16) (harg3 : arg3.IsWhole) (arg4 : Memref sig .tc .vmem S512x4096 .fp8e4m3) (harg4 : arg4.IsWhole) (arg5 : Memref sig .tc .vmem S1x512 .f32) (harg5 : arg5.IsWhole) (arg6 : Memref sig .tc .vmem S128x8x512 .bf16) (harg6 : arg6.IsWhole) (arg7 : Memref sig .tc .vmem S1024x4096 .fp8e4m3) (harg7 : arg7.IsWhole)
    (hc0 : ¬ k0_cond1 i = 1#1)
    (x0 : Vec F S2 .f32) (x1 : Vec F S1024x4096 .bf16) (x2 : Vec F S512x4096 .fp8e4m3) (x3 : Vec F S1x512 .f32) (x5 : Vec F S1024x4096 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x5 x2 (word x0 1) x3)
            ∗ owns (c : Thread nD τ) arg7 fullShare x5) -∗ K ⟨⟩))
      ⊢ wp frame (wpE (defs₀ (F := F)) Variants.none c none) E (cc0_w8a8_linear i arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    rw [read_stored _ inb_S128x8x512_S128x8x512_0_0_0 z3]
    simp only [View.readAt_eq_ld, Memref.IsWhole.read_unread, View.ld_unit_zero (S := S1024x4096) z2,
      View.ld_unit_zero (S := S512x4096) z2, View.ld_unit_zero (S := S1x512) z2]
    exact congrArg (fun b => k0_pay2 x5 x2 b x3) (ld_word1 x0 _)
  iexists _; isplitr; · ipureintro; exact harg7.read_unread _
  iexact H5

end Cert.AsGiven.Hand

end
-- ==== Proof.GivenRun.lean ====
/-
  The whole run of the kernel program with its frexp and ldexp as given. The pipeline's proof data name what every block holds after every grid point:
  the inputs their blocks, the codes block the quantised activations of the row of blocks the point is in, the product
  block the scaled product of those codes with the point's weight codes. From the body's two cases follow the body's
  obligation at every point, the run, and the frame claim.
-/
module

public import proofs.«01_k».proof.Proof.GivenBody
public import Idealize.ShloMosaic.Lib.Pipeline.ValueKit
public import Idealize.ShloMosaic.Lib.Claim

@[expose] public section

set_option maxRecDepth 16384

noncomputable section

namespace Cert.AsGiven.Hand

open Cert.AsGiven Cert.AsGiven.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The blocks at a point -/

/-- The quantised activations of point `t`'s row of blocks, -/
def codesAt (c : Dev nD) (t : Fin cfg0.N) : Vec F S1024x4096 .fp8e4m3 :=
  k0_pay1 (iblk m c 1 t) (word (iblk m c 0 t) 0)
/-- and the block of scaled products at point `t`. -/
def prodAt (c : Dev nD) (t : Fin cfg0.N) : Vec F S128x8x512 .bf16 :=
  k0_pay2 (codesAt m c t) (iblk m c 2 t) (word (iblk m c 0 t) 1) (iblk m c 3 t)

/-- The blocks' places in their arrays, at every point. -/
theorem idx : ∀ t : Fin cfg0.N, win0_0.index t = ![0] ∧ win0_1.index t = ![t.val / 43, 0] ∧ win0_2.index t = ![t.val % 43, 0]
    ∧ win0_3.index t = ![0, t.val % 43] ∧ win0_4.index t = ![t.val / 43, 0, t.val % 43] ∧ win0_5.index t = ![t.val / 43, 0] :=
  (by decide +kernel : ∀ t : Fin grid0.N, _)

set_option maxHeartbeats 4000000 in
/-- The pair of scales is one block, the same at every point: the whole array. -/
theorem iblk0 (c : Dev nD) (t : Fin cfg0.N) : iblk m c 0 t = V m c main_v4 := by
  blk_ext! [iblk, idx t]

/-- Block `t` of the activations, at an index. -/
theorem iblk1_apply (c : Dev nD) (t : Fin cfg0.N) (a : Fin 1024) (b : Fin 4096) (ha : t.val / 43 * 1024 + a.val < 24576) :
    iblk m c 1 t (ValueIdx.ix2 a b) = V m c main_v5 (ValueIdx.ix2 ⟨t.val / 43 * 1024 + a.val, ha⟩ b) := by
  blk_ext [iblk, idx t]

/-- Two points of the same row of blocks see the same block of activations, so they have the same codes. -/
theorem codesAt_eq (c : Dev nD) (t t' : Fin cfg0.N) (h : t.val / 43 = t'.val / 43) : codesAt m c t = codesAt m c t' := by
  unfold codesAt
  have e : (iblk m c 1 t : Vec F S1024x4096 .bf16) = iblk m c 1 t' := by
    funext j
    have ht : t.val < 1032 := Nat.lt_of_lt_of_eq t.isLt N_0
    rw [ValueIdx.eq_ix2 j]
    have hj : (j 0).val < 1024 := (j 0).isLt
    refine (iblk1_apply m c t (j 0) (j 1) (by omega)).trans (Eq.trans ?_ (iblk1_apply m c t' (j 0) (j 1) (by omega)).symm)
    simp only [h]
  rw [e, iblk0, iblk0]

/-- The body's condition holds exactly at the points of column 0. -/
theorem hcond : ∀ t : Fin cfg0.N, k0_cond1 (grid0.coords t) = 1#1 ↔ t.val % 43 = 0 :=
  (fun t => by
    have ht : t.val < 1032 := Nat.lt_of_lt_of_eq t.isLt N_0
    have e0 : (grid0.coords t 0).val = t.val / 43 % 24 := Pipeline.Grid.coords_val t 0 (by decide) rfl
    have e1 : (grid0.coords t 1).val = t.val / 1 % 43 := Pipeline.Grid.coords_val t 1 (by decide) rfl
    simp only [k0_cond1, e0, e1]
    word_cmp
   : ∀ t : Fin grid0.N, k0_cond1 (grid0.coords t) = 1#1 ↔ t.val % 43 = 0)

/-- The codes block is written at the points of column 0, -/
theorem idle5_first (t : Fin cfg0.N) (h : t.val % 43 = 0) : cfg0.idle 5 (cfg0.grid.coords t) = false := by
  have := (hcond t).mpr h
  show (!(k0_cond1 (grid0.coords t) == 1#1)) = false
  rw [this]; rfl
/-- and at no other. -/
theorem idle5_next (t : Fin cfg0.N) (h : ¬ t.val % 43 = 0) : cfg0.idle 5 (cfg0.grid.coords t) = true := by
  have := fun e => h ((hcond t).mp e)
  show (!(k0_cond1 (grid0.coords t) == 1#1)) = true
  rw [Bool.not_eq_true', beq_eq_false_iff_ne]; exact this

/-! ## The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prodAt m c t
    | ⟨5, _⟩ => codesAt m c t
  Φ _ := Pipeline.ΦA spec0 c
  q _ := fullShare
  owed _ := 0

/-- Every array starts as the host left it. -/
theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = prodAt m c t := by dsimp only [dats]
theorem after5 (c : Dev nD) (t : Fin cfg0.N) : (dats m 0 c).after 5 t = codesAt m c t := by dsimp only [dats]

/-- Each input's buffer holds its block when the body starts. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Past column 0 the codes block still holds the codes the row's first point left there. -/
theorem before5 (c : Dev nD) (t : Fin cfg0.N) (ht : ¬ t.val % 43 = 0) (d) : (dats m 0 c).before 5 t d = codesAt m c t := by
  induction hn : t.val using Nat.strong_induction_on generalizing t with
  | _ n ih =>
    subst hn
    have h0 : t.val ≠ 0 := fun h => ht (by rw [h])
    have hfl : (cfg0.win 5).flush ⟨t.val - 1, Nat.lt_of_le_of_lt (Nat.sub_le _ _) t.isLt⟩ = false := by
      rw [← Bool.not_eq_true]
      intro h
      have := (flush0_5 _).mp h
      simp only at this
      omega
    rw [(dats m 0 c).before_of_pos 5 t h0 ((cfg0.win 5).fetch_out rfl t), hfl, if_neg Bool.false_ne_true]
    unfold Dat.left
    by_cases h1 : (t.val - 1) % 43 = 0
    · rw [idle5_first ⟨t.val - 1, _⟩ h1]
      show (dats m 0 c).kept 5 _ d = _
      unfold Dat.kept
      rw [Pipeline.fill_of_clip_none 5 _ (fun _ => rfl) d ((dats m 0 c).after 5 _), Window.fill_cut, after5]
      exact codesAt_eq m c _ _ (by simp only; omega)
    · rw [idle5_next ⟨t.val - 1, _⟩ h1]
      exact (ih (t.val - 1) (by omega) ⟨t.val - 1, _⟩ h1 rfl).trans (codesAt_eq m c _ _ (by simp only; omega))

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What is asked of the codes block after the body at point `t`: at a column other than 0, unless the block is written
    back there, that it is as the body found it; else that it holds the codes. -/
def post5 (c : Dev nD) (t : Fin cfg0.N) : sProp 𝕄 :=
  match cfg0.idle 5 (cfg0.grid.coords t) with
  | true =>
    match (cfg0.win 5).flush t with
    | false => iprop(∃ d, owns (c : Thread nD τ) (win0_5.stage (cfg0.slots t 5)) fullShare ((dats m 0 c).before 5 t d))
    | true => owns (c : Thread nD τ) (win0_5.stage (cfg0.slots t 5)) fullShare ((dats m 0 c).after 5 t)
  | false => owns (c : Thread nD τ) (win0_5.stage (cfg0.slots t 5)) fullShare ((dats m 0 c).after 5 t)

/-- In every case it is enough that the block holds the codes. -/
theorem post5_of (c : Dev nD) (t : Fin cfg0.N) :
    owns (c : Thread nD τ) (win0_5.stage (cfg0.slots t 5)) fullShare (codesAt m c t) ⊢ post5 m c t := by
  unfold post5
  by_cases ht : t.val % 43 = 0
  · rw [idle5_first t ht]
    show _ ⊢ owns (c : Thread nD τ) (win0_5.stage (cfg0.slots t 5)) fullShare ((dats m 0 c).after 5 t)
    rw [after5]
  · rw [idle5_next t ht]
    show _ ⊢ (match (cfg0.win 5).flush t with
      | false => iprop(∃ d, owns (c : Thread nD τ) (win0_5.stage (cfg0.slots t 5)) fullShare ((dats m 0 c).before 5 t d))
      | true => owns (c : Thread nD τ) (win0_5.stage (cfg0.slots t 5)) fullShare ((dats m 0 c).after 5 t) : sProp 𝕄)
    cases (cfg0.win 5).flush t
    · show _ ⊢ (iprop(∃ d, owns (c : Thread nD τ) (win0_5.stage (cfg0.slots t 5)) fullShare ((dats m 0 c).before 5 t d)) : sProp 𝕄)
      simp only [before5 m c t ht]
      iintro H; iexists (codesAt m c t); iexact H
    · show _ ⊢ owns (c : Thread nD τ) (win0_5.stage (cfg0.slots t 5)) fullShare ((dats m 0 c).after 5 t)
      rw [after5]

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ post5 m c t)

/-- The body at any point, by the case of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases ht : t.val % 43 = 0
  · iintro ⟨HΦ, Ho, ⟨%d0, H0⟩, ⟨%d1, H1⟩, ⟨%d2, H2⟩, ⟨%d3, H3⟩, ⟨%d4, H4⟩, ⟨%d5, H5⟩⟩
    iapply (body_first c _ _ _ _ _ _ _ _ _ _ _ _ _ ((hcond t).mpr ht) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5
  · simp only [before5 m c t ht]
    iintro ⟨HΦ, Ho, ⟨%d0, H0⟩, ⟨%d1, H1⟩, ⟨%d2, H2⟩, ⟨%d3, H3⟩, ⟨%d4, H4⟩, ⟨%d5, H5⟩⟩
    iapply (body_next c _ _ _ _ _ _ _ _ _ _ _ _ _ (fun h => ht ((hcond t).mp h)) (iblk m c 0 t) (iblk m c 1 t) (iblk m c 2 t) (iblk m c 3 t) (codesAt m c t) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply (post5_of m c t); iexact H5

/-- The body that the launch calls at a point is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the program terminates; at its end every array of the pipeline holds what the proof data say, every
    other buffer what the host operations after the region leave, and every semaphore is at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AsGiven.Hand

end
-- ==== Proof.Powers.lean ====
/-
  The numbers the float32 patterns with a zero fraction denote — the powers of two 2^-126 … 2^127, and +∞ — and where a
  number stands among them. Last, what makes a number the inverse of a static scale, and the code of a value under it.
-/
module

public import Idealize.ShloMosaic.Lib.Pipeline.ValueKit
public import Idealize.ShloMosaic.Lib.Claim
public import Idealize.ShloMosaic.Lib.IndicatorCount

@[expose] public section

set_option maxRecDepth 16384

noncomputable section

namespace Cert.Powers

open Idealize.ShloMosaic

/-- The float32 pattern of exponent field `k` and fraction 0. -/
def pat (k : ℕ) : BitVec 32 := BitVec.ofNat 32 k <<< 23

/-- The number that pattern denotes. -/
def pow (k : ℕ) : EReal := Ideal.ofBits .f32 (pat k)

/-- The three fields of such a pattern. -/
theorem pat_fields : ∀ k : Fin 256, (pat k.val).extractLsb' 31 1 = 0#1 ∧ ((pat k.val).extractLsb' 23 8).toNat = k.val
    ∧ ((pat k.val).extractLsb' 0 23).toNat = 0 := by
  decide +kernel

/-- What a pattern with sign 0, exponent field `k` between 1 and 254 and fraction 0 denotes: 2^(k - 127). -/
theorem ieee_of_fields (b : BitVec 32) (k : ℕ) (h1 : 1 ≤ k) (h2 : k ≤ 254) (ha : b.extractLsb' 31 1 = 0#1)
    (hb : (b.extractLsb' 23 8).toNat = k) (hc : (b.extractLsb' 0 23).toNat = 0) :
    Ideal.ieee 8 23 b = (((2 : ℝ) ^ ((k : ℤ) - 127) : ℝ) : EReal) := by
  unfold Ideal.ieee
  simp only [Nat.reduceAdd, ha, hb, hc]
  rw [if_neg (by omega), if_neg (by omega)]
  congr 1
  have h23 : ((2 ^ 23 + 0 : ℕ) : ℝ) = (2 : ℝ) ^ (23 : ℤ) := by norm_num
  rw [h23]
  simp only [show ((0#1 : BitVec 1) == 1#1) = false from rfl, Bool.false_eq_true, if_false, one_mul]
  rw [← zpow_add₀ (by norm_num : (2 : ℝ) ≠ 0)]
  congr 1
  norm_num

/-- Exponent field `k` between 1 and 254 denotes 2^(k - 127). -/
theorem pow_eq (k : ℕ) (h1 : 1 ≤ k) (h2 : k ≤ 254) : pow k = (((2 : ℝ) ^ ((k : ℤ) - 127) : ℝ) : EReal) :=
  have h := pat_fields ⟨k, by omega⟩
  ieee_of_fields (pat k) k h1 h2 h.1 h.2.1 h.2.2

/-- Exponent field 255 denotes +∞. -/
theorem pow_top : pow 255 = ⊤ := by
  show Ideal.ofBits .f32 (pat 255) = ⊤
  rw [show pat 255 = 0x7F800000#32 by decide]
  simp [Ideal.ofBits, Ideal.ieee]

/-- Exponent field 0 denotes zero. -/
theorem pow_zero : pow 0 = 0 := by
  show Ideal.ofBits .f32 (pat 0) = 0
  rw [show pat 0 = 0x00000000#32 by decide]
  simp [Ideal.ofBits, Ideal.ieee]

/-- A larger exponent field denotes a larger number. -/
theorem pow_le (k l : ℕ) (h1 : 1 ≤ k) (hkl : k ≤ l) (h2 : l ≤ 255) : pow k ≤ pow l := by
  rcases Nat.lt_or_ge l 255 with h | h
  · rw [pow_eq k h1 (by omega), pow_eq l (by omega) (by omega)]
    exact EReal.coe_le_coe_iff.2 (zpow_le_zpow_right₀ (by norm_num) (by omega))
  · rw [show l = 255 by omega, pow_top]
    exact le_top

/-- Where a number stands among those powers: below the first, at +∞, or from one of them on and below the next. -/
theorem stands (a : EReal) : a < pow 1 ∨ a = ⊤ ∨ ∃ n, 1 ≤ n ∧ n ≤ 254 ∧ pow n ≤ a ∧ a < pow (n + 1) := by
  by_cases h0 : a < pow 1
  · exact Or.inl h0
  by_cases ht : a = ⊤
  · exact Or.inr (Or.inl ht)
  refine Or.inr (Or.inr ?_)
  have hex : ∃ n, a < pow (n + 1) ∧ n ≤ 254 := ⟨254, by rw [pow_top]; exact lt_top_iff_ne_top.2 ht, le_rfl⟩
  classical
  have hs := Nat.find_spec hex
  have hpos : Nat.find hex ≠ 0 := fun h => h0 (by rw [h] at hs; exact hs.1)
  refine ⟨Nat.find hex, by omega, hs.2, ?_, hs.1⟩
  have hmin := Nat.find_min hex (m := Nat.find hex - 1) (by omega)
  rw [Nat.sub_add_cancel (by omega)] at hmin
  by_contra hlt
  exact hmin ⟨not_le.1 hlt, by omega⟩

/-- How many of the 255 fields 1 … 255 denote a number not above `a`, where `a` stands from field `n` on. -/
theorem count (a : EReal) (n : ℕ) (hn : n ≤ 255) (hlo : 1 ≤ n → pow n ≤ a) (hhi : n < 255 → a < pow (n + 1)) :
    (Finset.univ.filter fun k : Fin 255 => pow (k.val + 1) ≤ a).card = n := by
  have hset : (Finset.univ.filter fun k : Fin 255 => pow (k.val + 1) ≤ a) = Finset.univ.filter fun k : Fin 255 => k.val < n := by
    refine Finset.filter_congr fun k _ => ⟨fun h => ?_, fun h => ?_⟩
    · by_contra hk
      have hk' := k.isLt
      have : pow (n + 1) ≤ pow (k.val + 1) := pow_le _ _ (by omega) (by omega) (by omega)
      exact absurd (hhi (by omega)) (not_lt.2 (this.trans h))
    · exact (pow_le _ _ (by omega) (by omega) (by omega)).trans (hlo (by omega))
  rw [hset]
  have := Fin.card_filter_val_lt (n := 255) (m := n)
  simpa [hn] using this

/-- The magnitude of a number, as both programs' host lines take it. -/
def mag (x : Ideal .f32) : EReal := FloatOps.absf (F := Ideal) (φ := .f32) x

/-- A proposition as a bit is 1 where it holds. -/
theorem bit_iff (p : Prop) [Decidable p] : BitVec.ofBool (decide p) = 1#1 ↔ p := by
  by_cases h : p <;> simp [h]

/-- A choice by the conjunction of two such bits. -/
theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, Scalar.select, IntOp.andi]

/-- The inverse of a static scale of magnitude `a` = m · 2^e, 1/2 ≤ m < 1, that is 2^(1 - e): field 254 - n for `a` that
    stands from field `n` on; and 2 for an `a` that is not a normal number. -/
def IsInverse (a r : EReal) : Prop :=
  (a < pow 1 → r = pow 128) ∧ (a = ⊤ → r = pow 128)
    ∧ ∀ n, 1 ≤ n → n ≤ 254 → pow n ≤ a → a < pow (n + 1) → r = pow (254 - n)

/-- Two such inverses of one scale are equal. -/
theorem IsInverse.unique {a r r' : EReal} (h : IsInverse a r) (h' : IsInverse a r') : r = r' := by
  rcases stands a with h0 | ht | ⟨n, h1, h2, hlo, hhi⟩
  · rw [h.1 h0, h'.1 h0]
  · rw [h.2.1 ht, h'.2.1 ht]
  · rw [h.2.2 n h1 h2 hlo hhi, h'.2.2 n h1 h2 hlo hhi]

/-- The code of a value `x` under the inverse scale `r`: their product clipped to ±448. -/
def code (x r : EReal) : EReal := min (Ideal.ofBits .f32 0x43E00000#32) (max (Ideal.ofBits .f32 0xC3E00000#32) (x * r))

end Cert.Powers

end
-- ==== Proof.KernelScale.lean ====
/-
  The pair of scales the kernel's host lines hand to the kernel: the inverse scale, built from the exponent field of the
  static scale, and the static scale itself.
-/
module

public import proofs.«01_k».proof.Proof.Body
public import proofs.«01_k».proof.Proof.Powers
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Powers

variable (m : (ℓ : Loc nD τ sig) → Buf (Elt Ideal) ℓ)

/-- The exponent field of |s|, as the host lines count it: how many of the 255 patterns 1 << 23, …, 255 << 23, read as
    numbers, are not above |s|. -/
def field (s : FVec Ideal S1 .f32) : IVec S1 32 :=
  Host.reduce IntOp.addi
    (extui 32 (cmpf .oge
      (broadcastInDim S1x255 ![0, 1] bcast_S1x1_S1x255_0_1 (broadcastInDim S1x1 ![0] bcast_S1_S1x1_0 (Host.absf s)))
      (broadcastInDim S1x255 ![1] bcast_S255_S1x255_1
        (bitcastToFloat .f32 (Host.shli
          (addi (broadcastInDim S255 ![] bcast_S_S255 (constantI S_ 32 1#32)) (iotaInDim S255 32 0))
          (broadcastInDim S255 ![] bcast_S_S255 (constantI S_ 32 23#32)))))) natLt_1_32)
    (constantI S_ 32 0#32) reducesTo_S1x255_S1_d1 h_S_

/-- The exponent of the scale from its field: the field less 126, and 0 where the field is 0 or 255. -/
def expo (f : IVec S1 32) : IVec S1 32 :=
  select (ori (cmpi .eq f (broadcastInDim S1 ![] bcast_S_S1 (constantI S_ 32 0#32)))
      (cmpi .eq f (broadcastInDim S1 ![] bcast_S_S1 (constantI S_ 32 255#32))))
    (broadcastInDim S1 ![] bcast_S_S1 (constantI S_ 32 0#32))
    (subi f (broadcastInDim S1 ![] bcast_S_S1 (constantI S_ 32 126#32)))

/-- The pattern of the inverse scale from the exponent `e`: exponent field 1 - e + 127, kept in 0 … 255. -/
def inversePattern (e : IVec S1 32) : IVec S1 32 :=
  Host.shli
    (minsi (broadcastInDim S1 ![] bcast_S_S1 (constantI S_ 32 255#32))
      (maxsi (broadcastInDim S1 ![] bcast_S_S1 (constantI S_ 32 0#32))
        (addi (subi (broadcastInDim S1 ![] bcast_S_S1 (constantI S_ 32 1#32)) e)
          (broadcastInDim S1 ![] bcast_S_S1 (constantI S_ 32 127#32)))))
    (broadcastInDim S1 ![] bcast_S_S1 (constantI S_ 32 23#32))

/-- What the region finds as the pair of scales: the inverse scale, then the scale. -/
theorem pair_eq (c : Dev nD) :
    V m c main_v29 = concatenate S2 0
      [⟨S1, (bitcastToFloat .f32 (inversePattern (expo (field (m ((c : Thread nD τ).loc main_arg3))))) : FVec Ideal S1 .f32)⟩,
        ⟨S1, (m ((c : Thread nD τ).loc main_arg3) : FVec Ideal S1 .f32)⟩] concatenates_S1_S1_S2_d0 := by
  show StableHlo.after (List.flatten [hostOps0, hostOps0_1, hostOps0_2, hostOps0_3, hostOps0_4]) (fun b => m (c, b)) (Proc.devRef .tc _) = _
  simp only [hostOps0, hostOps0_1, hostOps0_2, hostOps0_3, hostOps0_4, List.flatten_cons, List.flatten_nil, List.append_nil,
    List.cons_append, List.nil_append]
  after_results
  rfl

/-- The rows of the activations the region finds: the argument's two outer axes read as one. -/
theorem rows_eq (c : Dev nD) :
    V m c main_v30 = shapeCast S24576x4096 (m ((c : Thread nD τ).loc main_arg0)) shapeCasts_S6x4096x4096_S24576x4096 := by
  show StableHlo.after (List.flatten [hostOps0, hostOps0_1, hostOps0_2, hostOps0_3, hostOps0_4]) (fun b => m (c, b)) (Proc.devRef .tc _) = _
  simp only [hostOps0, hostOps0_1, hostOps0_2, hostOps0_3, hostOps0_4, List.flatten_cons, List.flatten_nil, List.append_nil,
    List.cons_append, List.nil_append]
  after_results
  rfl

/-- The weight scales the region finds: the argument as one row. -/
theorem weightScales_eq (c : Dev nD) :
    V m c main_v31 = shapeCast S1x22016 (m ((c : Thread nD τ).loc main_arg2)) shapeCasts_S22016_S1x22016 := by
  show StableHlo.after (List.flatten [hostOps0, hostOps0_1, hostOps0_2, hostOps0_3, hostOps0_4]) (fun b => m (c, b)) (Proc.devRef .tc _) = _
  simp only [hostOps0, hostOps0_1, hostOps0_2, hostOps0_3, hostOps0_4, List.flatten_cons, List.flatten_nil, List.append_nil,
    List.cons_append, List.nil_append]
  after_results
  rfl

/-- The first of the pair is the number the inverse scale's pattern denotes. -/
theorem word0_eq (c : Dev nD) : word (V m c main_v29) 0
    = Ideal.ofBits .f32 (inversePattern (expo (field (m ((c : Thread nD τ).loc main_arg3)))) (ValueIdx.ix1 0)) := by
  rw [pair_eq]
  unfold word
  pointwise
  rfl

/-- The second of the pair is the scale. -/
theorem word1_eq (c : Dev nD) : word (V m c main_v29) 1 = m ((c : Thread nD τ).loc main_arg3) (ValueIdx.ix1 0) := by
  rw [pair_eq]
  unfold word
  pointwise
  rfl

/-- The 255 patterns the host lines compare with are those of the exponent fields 1 … 255. -/
theorem patterns : ∀ k : Fin 255,
    IntOp.shli ArithUnit.host (IntOp.addi 1#32 (BitVec.ofNat 32 k.val)) 23#32 = pat (k.val + 1) := by
  decide +kernel

/-- The field is the number of those fields that denote a number not above |s|. -/
theorem field_apply (s : FVec Ideal S1 .f32) : field s (ValueIdx.ix1 0)
    = BitVec.ofNat 32 (Finset.univ.filter fun k : Fin 255 => pow (k.val + 1) ≤ mag (s (ValueIdx.ix1 0))).card := by
  unfold field
  pointwise
  refine (IndicatorCount.fold_addi_setWidth_eq_card _ _).trans ?_
  refine congrArg (fun S : Finset (Fin 255) => BitVec.ofNat 32 S.card) (Finset.filter_congr fun k _ => ?_)
  rw [patterns k]
  exact bit_iff _

/-- The inverse scale's pattern as a word of the field's word. -/
def inverseWord (f : BitVec 32) : BitVec 32 :=
  IntOp.shli ArithUnit.host
    (IntOp.minsi 255#32 (IntOp.maxsi 0#32 (IntOp.addi (IntOp.subi 1#32
      (Scalar.select (IntOp.ori (IntOp.cmpi .eq f 0#32) (IntOp.cmpi .eq f 255#32)) 0#32 (IntOp.subi f 126#32))) 127#32))) 23#32

/-- The inverse's bit pattern, computed from the one exponent field. -/
theorem inversePattern_apply (f : IVec S1 32) : inversePattern (expo f) (ValueIdx.ix1 0) = inverseWord (f (ValueIdx.ix1 0)) := by
  pointwise [inversePattern, expo]
  rfl

/-- Field 254 - n for a field n from 1 to 254, field 128 — the number 2 — for the fields 0 and 255. -/
theorem inverseWord_eq : ∀ n : Fin 256, inverseWord (BitVec.ofNat 32 n.val)
    = if n.val = 0 ∨ n.val = 255 then pat 128 else pat (254 - n.val) := by
  decide +kernel

/-- The kernel's inverse scale is the inverse of the scale. -/
theorem word0_isInverse (c : Dev nD) :
    IsInverse (mag (m ((c : Thread nD τ).loc main_arg3) (ValueIdx.ix1 0))) (word (V m c main_v29) 0) := by
  rw [word0_eq, inversePattern_apply, field_apply]
  refine ⟨fun h => ?_, fun h => ?_, fun n h1 h2 hlo hhi => ?_⟩
  · rw [count _ 0 (by omega) (fun h => absurd h (by omega)) (fun _ => h), inverseWord_eq ⟨0, by omega⟩]
    rfl
  · rw [h, count _ 255 le_rfl (fun _ => le_top) (fun h => absurd h (by omega)), inverseWord_eq ⟨255, by omega⟩]
    rfl
  · rw [count _ n (by omega) (fun _ => hlo) (fun _ => hhi), inverseWord_eq ⟨n, by omega⟩, if_neg (by simp only; omega)]
    rfl

end Cert.KernelIdeal.Hand

end
-- ==== Proof.Arrays.lean ====
/-
  What the kernel's two output arrays hold after its run, at every index: the codes of the rows of activations, and the
  scaled product of those codes with the weight codes.
-/
module

public import proofs.«01_k».proof.Proof.Run
public import proofs.«01_k».proof.Proof.KernelScale

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Powers (code)

variable (m : (ℓ : Loc nD τ sig) → Buf (Elt Ideal) ℓ)

/-- The codes of an array of rows under the inverse scale `r`. -/
def codesOf (X : FVec Ideal S24576x4096 .bf16) (r : Elt Ideal .f32) : FVec Ideal S24576x4096 .fp8e4m3 := fun i => code (X i) r

/-- The scaled product of codes with weight codes: at row `8 i + j` and column `n` the sum over the 4096 shared columns, times
    the scale, times the column's own scale. -/
def prodOf (C : FVec Ideal S24576x4096 .fp8e4m3) (W : FVec Ideal S22016x4096 .fp8e4m3) (s : Elt Ideal .f32)
    (ws : FVec Ideal S1x22016 .f32) : FVec Ideal S3072x8x22016 .bf16 := fun j =>
  ((∑ k : Fin 4096, C (ValueIdx.ix2 ⟨(j 0).val * 8 + (j 1).val, by have := (j 0).isLt; have := (j 1).isLt; simp at *; omega⟩ k)
      * W (ValueIdx.ix2 ⟨(j 2).val, (j 2).isLt⟩ k)) * s) * ws (ValueIdx.ix2 0 ⟨(j 2).val, (j 2).isLt⟩)

/-- Point `t`'s codes block is that block of the array of codes, -/
theorem codes_point (c : Dev nD) (t : Fin cfg0.N) (y : S1024x4096.Idx) :
    codesAt m c t y = codesOf (V m c main_v30) (word (V m c main_v29) 0) (((cfg0.win 5).blk t).view.emb y) := by
  unfold codesAt
  rw [iblk0]
  pointwise [k0_pay1, codesOf, code]
  blk_point [iblk, idx t]

/-- so the codes array ends as the array of codes. -/
theorem codes_final (c : Dev nD) :
    (dats m 0 c).arrAt 5 (cfgs 0).N = codesOf (V m c main_v30) (word (V m c main_v29) 0) := by
  refine (dats m 0 c).arrAt_eq_of_covers 5 _ (by decide +kernel) fun t _ y => ?_
  blk_simp
  rw [after5]
  exact codes_point m c t y

/-- Point `t`'s product block is that block of the array of scaled products, -/
theorem prod_point (c : Dev nD) (t : Fin cfg0.N) (y : S128x8x512.Idx) :
    prodAt m c t y = prodOf (codesOf (V m c main_v30) (word (V m c main_v29) 0)) (V m c main_arg1) (word (V m c main_v29) 1) (V m c main_v31)
      (((cfg0.win 4).blk t).view.emb y) := by
  unfold prodAt codesAt
  rw [iblk0]
  pointwise [k0_pay2, k0_pay1, prodOf, codesOf, code]
  blk_point [iblk, idx t]
  · show _ = ((((View.whole main_v32_0).slice (win0_4.rect t)).emb y 2 : Fin 22016) : ℕ)
    blk_simp [idx t]
  · show _ = ((((View.whole main_v32_0).slice (win0_4.rect t)).emb y 2 : Fin 22016) : ℕ)
    blk_simp [idx t]

/-- so the product array ends as the array of scaled products. -/
theorem prod_final (c : Dev nD) :
    (dats m 0 c).arrAt 4 (cfgs 0).N = prodOf (codesOf (V m c main_v30) (word (V m c main_v29) 0)) (V m c main_arg1) (word (V m c main_v29) 1) (V m c main_v31) := by
  refine (dats m 0 c).arrAt_eq_of_covers 4 _ (by decide +kernel) fun t _ y => ?_
  blk_simp
  rw [after4]
  exact prod_point m c t y

end Cert.KernelIdeal.Hand

end
-- ==== Proof.ReferenceScale.lean ====
/-
  The inverse scale the reference's host lines hand to the reference's region.
-/
module

public import proofs.«01_k».proof.Proof.Gen.ReferenceIdeal.Value
public import proofs.«01_k».proof.Proof.Powers
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Cert.Powers

variable (m : (ℓ : Loc nD τ sig) → Buf (Elt Ideal) ℓ)

/-- The sum over the 253 powers of two 2^-126 … 2^126 of the inverse of the one that is the power of two just below |s|. -/
def inverseSum (s : FVec Ideal S1 .f32) : FVec Ideal S1 .f32 :=
  Host.reduceAdd
    (select
      (andi
        (cmpf .oge
          (broadcastInDim S1x253 ![0, 1] bcast_S1x1_S1x253_0_1 (broadcastInDim S1x1 ![0] bcast_S1_S1x1_0 (Host.absf s)))
          (broadcastInDim S1x253 ![1] bcast_S253_S1x253_1 fun i => FloatOps.ofBits .f32 (lit0 (S253.rowMajor i))))
        (cmpf .olt
          (broadcastInDim S1x253 ![0, 1] bcast_S1x1_S1x253_0_1 (broadcastInDim S1x1 ![0] bcast_S1_S1x1_0 (Host.absf s)))
          (broadcastInDim S1x253 ![1] bcast_S253_S1x253_1 fun i => FloatOps.ofBits .f32 (lit1 (S253.rowMajor i)))))
      (broadcastInDim S1x253 ![1] bcast_S253_S1x253_1 fun i => FloatOps.ofBits .f32 (lit2 (S253.rowMajor i)))
      (broadcastInDim S1x253 ![] bcast_S_S1x253 (constant S_ .f32 0x00000000#32)))
    (constant S_ .f32 0x00000000#32) reducesTo_S1x253_S1_d1 h_S_

/-- The reference's inverse scale: that sum where |s| is a normal number, 2 elsewhere. -/
def inverse (s : FVec Ideal S1 .f32) : FVec Ideal S1 .f32 :=
  select
    (andi (cmpf .oge (Host.absf s) (broadcastInDim S1 ![] bcast_S_S1 (constant S_ .f32 0x00800000#32)))
      (cmpf .olt (Host.absf s) (broadcastInDim S1 ![] bcast_S_S1 (constant S_ .f32 0x7F800000#32))))
    (inverseSum s) (broadcastInDim S1 ![] bcast_S_S1 (constant S_ .f32 0x40000000#32))

/-- What the region finds as the inverse scale. -/
theorem inverse_eq (c : Dev nD) : V m c main_v17 = inverse (m ((c : Thread nD τ).loc main_arg3)) := by
  show StableHlo.after (List.flatten [hostOps0, hostOps0_1, hostOps0_2, hostOps0_3]) (fun b => m (c, b)) (Proc.devRef .tc _) = _
  simp only [hostOps0, hostOps0_1, hostOps0_2, hostOps0_3, List.flatten_cons, List.flatten_nil, List.append_nil,
    List.cons_append, List.nil_append]
  after_results
  rfl

/-- Entry `k` of the three tables: 2^(k - 126), twice that, and its inverse. -/
theorem tables : ∀ k : Fin 253, lit0 k = pat (k.val + 1) ∧ lit1 k = pat (k.val + 2) ∧ lit2 k = pat (253 - k.val) := by
  decide +kernel

/-- The row-major position of an index of a vector is the index. -/
theorem position (k : Fin 253) : S253.rowMajor (ValueIdx.ix1 k) = k :=
  Fin.ext ((by decide +kernel : ∀ k : Fin 253, (S253.rowMajor (ValueIdx.ix1 k)).val = k.val) k)

/-- The sum, over numbers: entry `k` counts where `a` stands from field k + 1 on. -/
theorem inverseSum_apply (s : FVec Ideal S1 .f32) : inverseSum s (ValueIdx.ix1 0)
    = ∑ k : Fin 253, if pow (k.val + 1) ≤ mag (s (ValueIdx.ix1 0)) ∧ mag (s (ValueIdx.ix1 0)) < pow (k.val + 2)
        then pow (253 - k.val) else (0 : EReal) := by
  unfold inverseSum
  pointwise
  refine Finset.sum_congr rfl fun k _ => ?_
  have hk : S253.rowMajor (ix1 k) = k := position k
  rw [hk, (tables k).1, (tables k).2.1, (tables k).2.2]
  exact select_and _ _ _ _

/-- The sum for a scale that stands from field `n` on. -/
theorem inverseSum_eq (s : FVec Ideal S1 .f32) (n : ℕ) (h1 : 1 ≤ n) (h2 : n ≤ 254)
    (hlo : pow n ≤ mag (s (ValueIdx.ix1 0))) (hhi : mag (s (ValueIdx.ix1 0)) < pow (n + 1)) :
    inverseSum s (ValueIdx.ix1 0) = pow (254 - n) := by
  rw [inverseSum_apply]
  -- entry `k` counts only at field n
  have only : ∀ k : Fin 253, k.val + 1 ≠ n →
      ¬ (pow (k.val + 1) ≤ mag (s (ValueIdx.ix1 0)) ∧ mag (s (ValueIdx.ix1 0)) < pow (k.val + 2)) := by
    rintro k hk ⟨hlo', hhi'⟩
    have := k.isLt
    rcases Nat.lt_or_gt_of_ne hk with h | h
    · exact absurd (hhi'.trans_le (pow_le (k.val + 2) n (by omega) (by omega) (by omega))) (not_lt.2 hlo)
    · exact absurd (hhi.trans_le (pow_le (n + 1) (k.val + 1) (by omega) (by omega) (by omega))) (not_lt.2 hlo')
  by_cases hn : n = 254
  · rw [Finset.sum_eq_zero fun k _ => if_neg (only k (by have := k.isLt; omega)), hn]
    exact pow_zero.symm
  · rw [Finset.sum_eq_single (⟨n - 1, by omega⟩ : Fin 253) (fun k _ hk => if_neg (only k fun h => hk (Fin.ext (by simp only; omega))))
      (fun h => absurd (Finset.mem_univ _) h)]
    simp only
    rw [show n - 1 + 1 = n by omega, show n - 1 + 2 = n + 1 by omega, if_pos ⟨hlo, hhi⟩, show 253 - (n - 1) = 254 - n by omega]

/-- The reference's inverse scale, over numbers: the sum for a normal number, 2 for the others. -/
theorem inverse_apply (s : FVec Ideal S1 .f32) : inverse s (ValueIdx.ix1 0)
    = if pow 1 ≤ mag (s (ValueIdx.ix1 0)) ∧ mag (s (ValueIdx.ix1 0)) < pow 255
        then inverseSum s (ValueIdx.ix1 0) else pow 128 := by
  unfold inverse
  pointwise
  rw [show (8388608#32 : BitVec 32) = pat 1 by decide, show (2139095040#32 : BitVec 32) = pat 255 by decide,
    show (1073741824#32 : BitVec 32) = pat 128 by decide]
  exact select_and _ _ _ _

/-- The reference's inverse scale is the inverse of the scale. -/
theorem inverse_isInverse (s : FVec Ideal S1 .f32) :
    IsInverse (mag (s (ValueIdx.ix1 0))) (inverse s (ValueIdx.ix1 0)) := by
  rw [inverse_apply]
  refine ⟨fun h => if_neg fun h' => absurd h (not_lt.2 h'.1), fun h => if_neg fun h' => ?_, fun n h1 h2 hlo hhi => ?_⟩
  · rw [h] at h'
    exact absurd h'.2 (not_lt.2 le_top)
  · rw [if_pos ⟨(pow_le 1 n le_rfl h1 (by omega)).trans hlo, hhi.trans_le (pow_le (n + 1) 255 (by omega) (by omega) le_rfl)⟩]
    exact inverseSum_eq s n h1 h2 hlo hhi

end Cert.ReferenceIdeal.Hand

end
-- ==== Proof.ReferenceArrays.lean ====
/-
  What the reference's two result arrays hold after its run, at every index, in terms of the arguments: the codes of the
  activations, and the scaled product of those codes with the weight codes.
-/
module

public import proofs.«01_k».proof.Proof.ReferenceScale
public import Idealize.ShloMosaic.Lib.Pipeline.ReadBack

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Powers

variable (m : (ℓ : Loc nD τ sig) → Buf (Elt Ideal) ℓ)

/-- The one block of each array is the whole array. -/
theorem idx : ∀ t : Fin cfg0.N, win0_0.index t = ![0] ∧ win0_1.index t = ![0, 0, 0] ∧ win0_2.index t = ![0, 0]
    ∧ win0_3.index t = ![0] ∧ win0_4.index t = ![0] ∧ win0_5.index t = ![0, 0, 0] ∧ win0_6.index t = ![0, 0, 0] :=
  (by decide +kernel : ∀ t : Fin grid0.N, _)

/-- The block that the body reads of the inverse scale is the whole array. -/
theorem iblk0 (c : Dev nD) (t : Fin cfg0.N) : iblk m c 0 t = V m c main_v17 := by
  blk_ext! [iblk, idx t]

/-- The block that the body reads of the activations is the whole array. -/
theorem iblk1 (c : Dev nD) (t : Fin cfg0.N) : iblk m c 1 t = m ((c : Thread nD τ).loc main_arg0) := by
  rw [← V_main_arg0 m c]
  blk_ext! [iblk, idx t]

/-- The block that the body reads of the weight codes is the whole array. -/
theorem iblk2 (c : Dev nD) (t : Fin cfg0.N) : iblk m c 2 t = m ((c : Thread nD τ).loc main_arg1) := by
  rw [← V_main_arg1 m c]
  blk_ext! [iblk, idx t]

/-- The block that the body reads of the weight scales is the whole array. -/
theorem iblk3 (c : Dev nD) (t : Fin cfg0.N) : iblk m c 3 t = m ((c : Thread nD τ).loc main_arg2) := by
  rw [← V_main_arg2 m c]
  blk_ext! [iblk, idx t]

/-- The block that the body reads of the activation scale is the whole array. -/
theorem iblk4 (c : Dev nD) (t : Fin cfg0.N) : iblk m c 4 t = m ((c : Thread nD τ).loc main_arg3) := by
  rw [← V_main_arg3 m c]
  blk_ext! [iblk, idx t]

/-- The first index of an array of one element. -/
theorem first_eq (h : 0 < S1.numel) : Shape.Idx.first (s := S1) h = ValueIdx.ix1 0 := by
  funext a
  fin_cases a
  exact Subsingleton.elim (α := Fin 1) _ _

/-- The codes array after the run. -/
theorem codes_final (c : Dev nD) : (dats m 0 c).arrAt 6 (cfgs 0).N
    = k0_pay1 (m ((c : Thread nD τ).loc main_arg0)) (inverse (m ((c : Thread nD τ).loc main_arg3)) (ValueIdx.ix1 0)) := by
  refine (dats m 0 c).arrAt_eq_of_covers 6 _ (by decide +kernel) fun t _ y => ?_
  blk_simp
  rw [after0_6]
  unfold outsAt0
  dsimp only
  frame_out
  simp only [read_unread_whole]
  rw [iblk0, iblk1, inverse_eq]
  have hy : ((View.whole main_v18_1).slice (win0_6.rect t)).emb y = y := by
    blk_ext! [idx t]
  rw [hy, first_eq]

/-- The product array after the run. -/
theorem prod_final (c : Dev nD) : (dats m 0 c).arrAt 5 (cfgs 0).N
    = k0_pay2 (m ((c : Thread nD τ).loc main_arg0)) (inverse (m ((c : Thread nD τ).loc main_arg3)) (ValueIdx.ix1 0))
        (m ((c : Thread nD τ).loc main_arg1)) (m ((c : Thread nD τ).loc main_arg3) (ValueIdx.ix1 0)) (m ((c : Thread nD τ).loc main_arg2)) := by
  refine (dats m 0 c).arrAt_eq_of_covers 5 _ (by decide +kernel) fun t _ y => ?_
  blk_simp
  rw [after0_5]
  unfold outsAt0
  dsimp only
  frame_out
  simp only [read_unread_whole]
  rw [iblk0, iblk1, iblk2, iblk3, iblk4, inverse_eq]
  have hy : ((View.whole main_v18_0).slice (win0_5.rect t)).emb y = y := by
    blk_ext! [idx t]
  rw [hy, first_eq]

/-- The codes at an index. -/
theorem codes_apply (X : Vec Ideal S6x4096x4096 .bf16) (r : Elt Ideal .f32) (b : Fin 6) (q : Fin 4096) (k : Fin 4096) :
    k0_pay1 X r (ValueIdx.ix3 b q k) = code (X (ValueIdx.ix3 b q k)) r := by
  pointwise [k0_pay1, code]

/-- The scaled product at an index. -/
theorem prod_apply (X : Vec Ideal S6x4096x4096 .bf16) (r : Elt Ideal .f32) (W : Vec Ideal S22016x4096 .fp8e4m3) (s : Elt Ideal .f32)
    (ws : Vec Ideal S22016 .f32) (b : Fin 6) (q : Fin 4096) (n : Fin 22016) :
    k0_pay2 X r W s ws (ValueIdx.ix3 b q n) = ((∑ k : Fin 4096, code (X (ValueIdx.ix3 b q k)) r * W (ValueIdx.ix2 n k)) * s) * ws (ValueIdx.ix1 n) := by
  pointwise [k0_pay2, k0_pay1, code]
  rfl

end Cert.ReferenceIdeal.Hand

end
-- ==== Proof.Equation.lean ====
/-
  The two programs' results are the same arrays: the kernel's, read back to the argument's three axes, and the
  reference's, index by index.
-/
module

public import proofs.«01_k».proof.Proof.Arrays
public import proofs.«01_k».proof.Proof.ReferenceArrays

@[expose] public section

set_option maxRecDepth 16384

noncomputable section

namespace Cert.Equation

open Idealize.ShloMosaic Idealize.ShloMosaic.TcCoe Idealize.SL.Sem
open Cert.Powers Cert.KernelIdeal Cert.KernelIdeal.Gen Cert.KernelIdeal.Hand

/-- The codes: rows of the flattened activations, read back to three axes, are the codes of the activations. -/
theorem codes_eq (X : FVec Ideal S6x4096x4096 .bf16) (r : Elt Ideal .f32) :
    shapeCast S6x4096x4096 (codesOf (shapeCast S24576x4096 X shapeCasts_S6x4096x4096_S24576x4096) r) shapeCasts_S24576x4096_S6x4096x4096
      = Cert.ReferenceIdeal.Gen.k0_pay1 X r := by
  funext j
  pointwise [codesOf, Cert.ReferenceIdeal.Gen.k0_pay1, code]

/-- A row of the flattened activations, counted by eights, at a column, is the row at its two outer places. -/
theorem row_eq (X : FVec Ideal S6x4096x4096 .bf16) (a : Fin 6) (b : Fin 4096) (x : Fin 4096) (h0 h1) :
    X (ValueIdx.ix3 (⟨((a.val * 512 + b.val / 8) * 8 + b.val % 8) / 4096, h0⟩ : Fin 6)
        (⟨((a.val * 512 + b.val / 8) * 8 + b.val % 8) % 4096, h1⟩ : Fin 4096) x) = X (ValueIdx.ix3 a b x) := by
  have hb := b.isLt
  have e0 : (⟨((a.val * 512 + b.val / 8) * 8 + b.val % 8) / 4096, h0⟩ : Fin 6) = a := Fin.ext (by simp only; omega)
  have e1 : (⟨((a.val * 512 + b.val / 8) * 8 + b.val % 8) % 4096, h1⟩ : Fin 4096) = b := Fin.ext (by simp only; omega)
  rw [e0, e1]

/-- The scaled products: rows counted by eights, read back to three axes, are the reference's. -/
theorem prod_eq (X : FVec Ideal S6x4096x4096 .bf16) (r : Elt Ideal .f32) (W : FVec Ideal S22016x4096 .fp8e4m3) (s : Elt Ideal .f32)
    (ws : FVec Ideal S22016 .f32) :
    shapeCast S6x4096x22016
        (prodOf (codesOf (shapeCast S24576x4096 X shapeCasts_S6x4096x4096_S24576x4096) r) W s (shapeCast S1x22016 ws shapeCasts_S22016_S1x22016))
        shapeCasts_S3072x8x22016_S6x4096x22016
      = Cert.ReferenceIdeal.Gen.k0_pay2 X r W s ws := by
  funext j
  pointwise [prodOf, codesOf, Cert.ReferenceIdeal.Gen.k0_pay2, Cert.ReferenceIdeal.Gen.k0_pay1, code]
  refine congrArg₂ (· * ·) (congrArg (· * s) (Finset.sum_congr rfl fun x _ => congrArg₂ (· * ·) ?_ rfl)) rfl
  exact congrArg (fun v : EReal => min (Ideal.ofBits .f32 0x43E00000#32) (max (Ideal.ofBits .f32 0xC3E00000#32) (v * r)))
    (row_eq X (j 0) (j 1) x _ _)

end Cert.Equation

end
-- ==== Proof.Results.lean ====
/-
  The kernel program's run with its results named: the product array and the codes array, each read back to three axes.
-/
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The window arrays are distinct buffers. -/
theorem arr_inj : Function.Injective (Pipeline.arrRef (sig := sig) spec0) := by decide

/-- The first result is the product array, read back to three axes. -/
theorem tail_product (c : Dev nD) : Pipeline.afterTail₀ cfgs (dats m) 0 (V0 m) [hostOps1] c main_v33
    = shapeCast S6x4096x22016 ((dats m 0 c).arrAt 4 (cfgs 0).N) shapeCasts_S3072x8x22016_S6x4096x22016 := by
  unfold Pipeline.afterTail₀
  simp only [hostOps1, List.flatten_cons, List.flatten_nil, List.append_nil]
  after_results
  exact congrArg (fun x => shapeCast S6x4096x22016 x shapeCasts_S3072x8x22016_S6x4096x22016)
    (Pipeline.withArrays_arr spec0 arr_inj c (V0 m c) (fun w => (dats m 0 c).arrAt w (cfgs 0).N) 4)

/-- The second result is the codes array, read back to three axes. -/
theorem tail_codes (c : Dev nD) : Pipeline.afterTail₀ cfgs (dats m) 0 (V0 m) [hostOps1] c main_v34
    = shapeCast S6x4096x4096 ((dats m 0 c).arrAt 5 (cfgs 0).N) shapeCasts_S24576x4096_S6x4096x4096 := by
  unfold Pipeline.afterTail₀
  simp only [hostOps1, List.flatten_cons, List.flatten_nil, List.append_nil]
  after_results
  exact congrArg (fun x => shapeCast S6x4096x4096 x shapeCasts_S24576x4096_S6x4096x4096)
    (Pipeline.withArrays_arr spec0 arr_inj c (V0 m c) (fun w => (dats m 0 c).arrAt w (cfgs 0).N) 5)

/-- Every run ends with the two results at those arrays and the arguments unchanged. -/
theorem run_results : θ_run defs (onTc (τ := τ) (main (F := Ideal))) ⟨m, fun _ => 0, ρ⟩ fun r => ∀ c : Dev nD,
      r.2.mem ((c.tc : Thread nD τ).loc main_v33)
        = shapeCast S6x4096x22016 ((dats m 0 c).arrAt 4 (cfgs 0).N) shapeCasts_S3072x8x22016_S6x4096x22016
      ∧ r.2.mem ((c.tc : Thread nD τ).loc main_v34)
        = shapeCast S6x4096x4096 ((dats m 0 c).arrAt 5 (cfgs 0).N) shapeCasts_S24576x4096_S6x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun r h c => ⟨((h.1 c).2 main_v33 (by decide)).trans (tail_product m c), ((h.1 c).2 main_v34 (by decide)).trans (tail_codes m c), h.2.1 c⟩)
    (θ_run_and (run_main m ρ) (frame m ρ))

end Cert.KernelIdeal.Hand

end
-- ==== Proof.Algebraic.lean ====
/-
  The algebraic claim: over the extended reals, from equal arguments, the kernel's three results are the reference's.
-/
module

public import proofs.«01_k».proof.Defs
public import proofs.«01_k».proof.Proof.Equation
public import proofs.«01_k».proof.Proof.Results

@[expose] public section

set_option maxRecDepth 16384

noncomputable section

namespace Cert.Algebraic

open Idealize.ShloMosaic Idealize.ShloMosaic.TcCoe Idealize.SL.Sem
open Cert.Powers

/-- The two inverse scales are equal when the two static scales are. -/
theorem inverse_same (m : (ℓ : Loc Cert.KernelIdeal.nD Cert.KernelIdeal.τ Cert.KernelIdeal.sig) → Buf (Elt Ideal) ℓ) (c : Dev Cert.KernelIdeal.nD) :
    Cert.KernelIdeal.Hand.word (Cert.KernelIdeal.Gen.V m c Cert.KernelIdeal.main_v29) 0
      = Cert.ReferenceIdeal.Hand.inverse (m ((c.tc : Thread Cert.KernelIdeal.nD Cert.KernelIdeal.τ).loc Cert.KernelIdeal.main_arg3)) (ValueIdx.ix1 0) :=
  (Cert.KernelIdeal.Hand.word0_isInverse m c).unique (Cert.ReferenceIdeal.Hand.inverse_isInverse _)

/-- The kernel's product array, read back to three axes, is the reference's over the kernel's arguments. -/
theorem product_same (m : (ℓ : Loc Cert.KernelIdeal.nD Cert.KernelIdeal.τ Cert.KernelIdeal.sig) → Buf (Elt Ideal) ℓ) (c : Dev Cert.KernelIdeal.nD) :
    shapeCast Cert.KernelIdeal.S6x4096x22016 ((Cert.KernelIdeal.Hand.dats m 0 c).arrAt 4 (Cert.KernelIdeal.cfgs 0).N)
        Cert.KernelIdeal.Gen.shapeCasts_S3072x8x22016_S6x4096x22016
      = Cert.ReferenceIdeal.Gen.k0_pay2 (m ((c.tc : Thread Cert.KernelIdeal.nD Cert.KernelIdeal.τ).loc Cert.KernelIdeal.main_arg0))
          (Cert.ReferenceIdeal.Hand.inverse (m ((c.tc : Thread Cert.KernelIdeal.nD Cert.KernelIdeal.τ).loc Cert.KernelIdeal.main_arg3)) (ValueIdx.ix1 0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3) (ValueIdx.ix1 0))
          (m ((c.tc : Thread Cert.KernelIdeal.nD Cert.KernelIdeal.τ).loc Cert.KernelIdeal.main_arg2)) := by
  rw [Cert.KernelIdeal.Hand.prod_final, Cert.KernelIdeal.Hand.rows_eq, Cert.KernelIdeal.Hand.weightScales_eq, inverse_same,
    Cert.KernelIdeal.Hand.word1_eq, Cert.KernelIdeal.Gen.V_main_arg1]
  exact Cert.Equation.prod_eq _ _ _ _ _

/-- The kernel's codes array, read back to three axes, is the reference's over the kernel's arguments. -/
theorem codes_same (m : (ℓ : Loc Cert.KernelIdeal.nD Cert.KernelIdeal.τ Cert.KernelIdeal.sig) → Buf (Elt Ideal) ℓ) (c : Dev Cert.KernelIdeal.nD) :
    shapeCast Cert.KernelIdeal.S6x4096x4096 ((Cert.KernelIdeal.Hand.dats m 0 c).arrAt 5 (Cert.KernelIdeal.cfgs 0).N)
        Cert.KernelIdeal.Gen.shapeCasts_S24576x4096_S6x4096x4096
      = Cert.ReferenceIdeal.Gen.k0_pay1 (m ((c.tc : Thread Cert.KernelIdeal.nD Cert.KernelIdeal.τ).loc Cert.KernelIdeal.main_arg0))
          (Cert.ReferenceIdeal.Hand.inverse (m ((c.tc : Thread Cert.KernelIdeal.nD Cert.KernelIdeal.τ).loc Cert.KernelIdeal.main_arg3)) (ValueIdx.ix1 0)) := by
  rw [Cert.KernelIdeal.Hand.codes_final, Cert.KernelIdeal.Hand.rows_eq, inverse_same]
  exact Cert.Equation.codes_eq _ _

/-- From equal arguments the two programs' runs end with equal results: the scaled products, the codes, and the scale. -/
theorem algebraic : Cert.algebraic_KernelIdeal_ReferenceIdeal (hKernelIdeal := Cert.KernelIdeal.Gen.facts)
    (hReferenceIdeal := Cert.ReferenceIdeal.Gen.facts) := by
  intro m g m' g' hpre hagree
  refine ⟨fun c => Cert.ReferenceIdeal.Gen.k0_pay2 (m ((c.tc : Thread Cert.KernelIdeal.nD Cert.KernelIdeal.τ).loc Cert.KernelIdeal.main_arg0))
      (Cert.ReferenceIdeal.Hand.inverse (m ((c.tc : Thread Cert.KernelIdeal.nD Cert.KernelIdeal.τ).loc Cert.KernelIdeal.main_arg3)) (ValueIdx.ix1 0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3) (ValueIdx.ix1 0))
      (m ((c.tc : Thread Cert.KernelIdeal.nD Cert.KernelIdeal.τ).loc Cert.KernelIdeal.main_arg2)),
    fun c => Cert.ReferenceIdeal.Gen.k0_pay1 (m ((c.tc : Thread Cert.KernelIdeal.nD Cert.KernelIdeal.τ).loc Cert.KernelIdeal.main_arg0))
      (Cert.ReferenceIdeal.Hand.inverse (m ((c.tc : Thread Cert.KernelIdeal.nD Cert.KernelIdeal.τ).loc Cert.KernelIdeal.main_arg3)) (ValueIdx.ix1 0)),
    fun c => m ((c.tc : Thread Cert.KernelIdeal.nD Cert.KernelIdeal.τ).loc Cert.KernelIdeal.main_arg3), ?_, ?_⟩
  · refine (θ_run _ _ _).mono (fun r h c => ?_) (Cert.KernelIdeal.Hand.run_results m g)
    obtain ⟨hy, hq, h0, h1, h2, h3⟩ := h c
    exact ⟨hy.trans (product_same m c), hq.trans (codes_same m c), h3, h0, h1, h2, h3⟩
  · refine (θ_run _ _ _).mono (fun r h c => ?_) (Cert.ReferenceIdeal.Value.run_blocks m' g')
    obtain ⟨hy, hq, h0, h1, h2, h3⟩ := h c
    obtain ⟨a0, a1, a2, a3⟩ := hagree c
    refine ⟨hy.trans ?_, hq.trans ?_, h3.trans a3, h0, h1, h2, h3⟩
    · refine (Cert.ReferenceIdeal.Hand.prod_final m' c).trans ?_
      rw [a0, a1, a2, a3]
    · refine (Cert.ReferenceIdeal.Hand.codes_final m' c).trans ?_
      rw [a0, a3]

end Cert.Algebraic

end
-- ==== Proof.lean ====
module

public import proofs.«01_k».proof.Defs
public import proofs.«01_k».proof.Proof.Run
public import proofs.«01_k».proof.Proof.PrintedRun
public import proofs.«01_k».proof.Proof.GivenRun
public import proofs.«01_k».proof.Proof.Gen.ReferenceIdeal.Value
public import proofs.«01_k».proof.Proof.Algebraic

@[expose] public section

open Idealize.ShloMosaic Idealize.ShloMosaic.TcCoe Idealize.SL.Sem

namespace Cert.Proof

/-- Everything the certificate claims. -/
theorem claim : Cert.Claim :=
  ⟨Cert.Kernel.Gen.facts, Cert.KernelIdeal.Gen.facts, Cert.ReferenceIdeal.Gen.facts, Cert.AsGiven.Gen.facts,
    fun m ρ _ => Cert.Kernel.Hand.frame m ρ,
    fun m ρ _ => Cert.KernelIdeal.Hand.frame m ρ,
    fun m ρ _ => Cert.ReferenceIdeal.Gen.frame m ρ,
    fun m ρ _ => Cert.AsGiven.Hand.frame m ρ,
    trivial,
    Cert.Algebraic.algebraic⟩

end Cert.Proof
